-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_op_in_range [hPre_op_in_range : Cert.Pre_op_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_op_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_op_in_range [hPre_op_in_range : Cert.Pre_op_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_op_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_op_in_range [hKernelIdeal : Cert.KernelIdeal.Facts] [hPre_op_in_range : Cert.Pre_op_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_op_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_op_in_range [hReferenceIdeal : Cert.ReferenceIdeal.Facts] [hPre_op_in_range : Cert.Pre_op_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_op_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_op_in_range [hKernelIdeal : Cert.KernelIdeal.Facts] [hReferenceIdeal : Cert.ReferenceIdeal.Facts] [hPre_op_in_range : Cert.Pre_op_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_op_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v195) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_op_in_range : Cert.Pre_op_in_range.Facts),
    quiescent_Kernel (hKernel := hKernel)
    ∧ quiescent_KernelIdeal (hKernelIdeal := hKernelIdeal)
    ∧ quiescent_KernelIdeal_pre_op_in_range (hKernelIdeal := hKernelIdeal) (hPre_op_in_range := hPre_op_in_range)
    ∧ quiescent_ReferenceIdeal (hReferenceIdeal := hReferenceIdeal)
    ∧ quiescent_ReferenceIdeal_pre_op_in_range (hReferenceIdeal := hReferenceIdeal) (hPre_op_in_range := hPre_op_in_range)
    ∧ preserves_Kernel_KernelIdeal
    ∧ algebraic_KernelIdeal_ReferenceIdeal_pre_op_in_range (hKernelIdeal := hKernelIdeal) (hReferenceIdeal := hReferenceIdeal) (hPre_op_in_range := hPre_op_in_range)
-- ==== Pre_op_in_range.lean ====
abbrev S4096 : Shape := ⟨1, ![4096]⟩
abbrev S8x32 : Shape := ⟨2, ![8, 32]⟩
abbrev S49x256 : Shape := ⟨2, ![49, 256]⟩
abbrev S256 : Shape := ⟨1, ![256]⟩
abbrev S256x256 : Shape := ⟨2, ![256, 256]⟩
abbrev S256x16 : Shape := ⟨2, ![256, 16]⟩
abbrev S16x256x512 : Shape := ⟨3, ![16, 256, 512]⟩
abbrev S16x512 : Shape := ⟨2, ![16, 512]⟩
abbrev S16x512x256 : Shape := ⟨3, ![16, 512, 256]⟩
abbrev S16x256 : Shape := ⟨2, ![16, 256]⟩
abbrev S256x64 : Shape := ⟨2, ![256, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : IVec S4096 32) (main_arg2 : IVec S4096 32) (main_arg3 : IVec S4096 32) (main_arg4 : FVec F S8x32 .f32) (main_arg5 : FVec F S49x256 .f32) (main_arg6 : FVec F S256 .f32) (main_arg7 : FVec F S256x256 .f32) (main_arg8 : FVec F S256 .f32) (main_arg9 : FVec F S256x16 .f32) (main_arg10 : FVec F S16x256x512 .f32) (main_arg11 : FVec F S16x512 .f32) (main_arg12 : FVec F S16x512x256 .f32) (main_arg13 : FVec F S16x256 .f32) (main_arg14 : FVec F S256x64 .f32) (main_arg15 : FVec F S64 .f32) (main_arg16 : FVec F S64x8 .f32) (main_arg17 : FVec F S8 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 8#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096 : Shape := ⟨1, ![4096]⟩
abbrev S8x32 : Shape := ⟨2, ![8, 32]⟩
abbrev S49x256 : Shape := ⟨2, ![49, 256]⟩
abbrev S256 : Shape := ⟨1, ![256]⟩
abbrev S256x256 : Shape := ⟨2, ![256, 256]⟩
abbrev S256x16 : Shape := ⟨2, ![256, 16]⟩
abbrev S16x256x512 : Shape := ⟨3, ![16, 256, 512]⟩
abbrev S16x512 : Shape := ⟨2, ![16, 512]⟩
abbrev S16x512x256 : Shape := ⟨3, ![16, 512, 256]⟩
abbrev S16x256 : Shape := ⟨2, ![16, 256]⟩
abbrev S256x64 : Shape := ⟨2, ![256, 64]⟩
abbrev S64 : Shape := ⟨1, ![64]⟩
abbrev S64x8 : Shape := ⟨2, ![64, 8]⟩
abbrev S8 : Shape := ⟨1, ![8]⟩
abbrev S4096x1 : Shape := ⟨2, ![4096, 1]⟩
abbrev S1x256 : Shape := ⟨2, ![1, 256]⟩
abbrev S16x1x512 : Shape := ⟨3, ![16, 1, 512]⟩
abbrev S1x64 : Shape := ⟨2, ![1, 64]⟩
abbrev S1x8 : Shape := ⟨2, ![1, 8]⟩
abbrev S4096x8 : Shape := ⟨2, ![4096, 8]⟩
abbrev S4096x16 : Shape := ⟨2, ![4096, 16]⟩
abbrev S1x1 : Shape := ⟨2, ![1, 1]⟩
abbrev S4x256x512 : Shape := ⟨3, ![4, 256, 512]⟩
abbrev S4x1x512 : Shape := ⟨3, ![4, 1, 512]⟩
abbrev S4x512x256 : Shape := ⟨3, ![4, 512, 256]⟩
abbrev S4096x256 : Shape := ⟨2, ![4096, 256]⟩
abbrev S32x256 : Shape := ⟨2, ![32, 256]⟩
abbrev S8x256 : Shape := ⟨2, ![8, 256]⟩
abbrev S1x16 : Shape := ⟨2, ![1, 16]⟩
abbrev S16 : Shape := ⟨1, ![16]⟩
abbrev S1x1x16 : Shape := ⟨3, ![1, 1, 16]⟩
abbrev S1 : Shape := ⟨1, ![1]⟩
abbrev S1x1x1 : Shape := ⟨3, ![1, 1, 1]⟩
abbrev S1x4096x16 : Shape := ⟨3, ![1, 4096, 16]⟩
abbrev S1x256x512 : Shape := ⟨3, ![1, 256, 512]⟩
abbrev S256x512 : Shape := ⟨2, ![256, 512]⟩
abbrev S4096x512 : Shape := ⟨2, ![4096, 512]⟩
abbrev S1x1x512 : Shape := ⟨3, ![1, 1, 512]⟩
abbrev S1x512 : Shape := ⟨2, ![1, 512]⟩
abbrev S1x512x256 : Shape := ⟨3, ![1, 512, 256]⟩
abbrev S512x256 : Shape := ⟨2, ![512, 256]⟩
abbrev S4096x64 : Shape := ⟨2, ![4096, 64]⟩

abbrev nBuf : Space → Nat
  | .hbm => 30
  | .vmem => 30
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S4096, .i32⟩
  | .hbm, ⟨3, _⟩ => ⟨S4096, .i32⟩
  | .hbm, ⟨4, _⟩ => ⟨S8x32, .f32⟩
  | .hbm, ⟨5, _⟩ => ⟨S49x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x16, .f32⟩
  | .hbm, ⟨10, _⟩ => ⟨S16x256x512, .f32⟩
  | .hbm, ⟨11, _⟩ => ⟨S16x512, .f32⟩
  | .hbm, ⟨12, _⟩ => ⟨S16x512x256, .f32⟩
  | .hbm, ⟨13, _⟩ => ⟨S16x256, .f32⟩
  | .hbm, ⟨14, _⟩ => ⟨S256x64, .f32⟩
  | .hbm, ⟨15, _⟩ => ⟨S64, .f32⟩
  | .hbm, ⟨16, _⟩ => ⟨S64x8, .f32⟩
  | .hbm, ⟨17, _⟩ => ⟨S8, .f32⟩
  | .hbm, ⟨18, _⟩ => ⟨S4096x1, .i32⟩
  | .hbm, ⟨19, _⟩ => ⟨S4096x1, .i32⟩
  | .hbm, ⟨20, _⟩ => ⟨S4096x1, .i32⟩
  | .hbm, ⟨21, _⟩ => ⟨S4096x1, .i32⟩
  | .hbm, ⟨22, _⟩ => ⟨S1x256, .f32⟩
  | .hbm, ⟨23, _⟩ => ⟨S16x1x512, .f32⟩
  | .hbm, ⟨24, _⟩ => ⟨S1x256, .f32⟩
  | .hbm, ⟨25, _⟩ => ⟨S1x64, .f32⟩
  | .hbm, ⟨26, _⟩ => ⟨S1x8, .f32⟩
  | .hbm, ⟨27, _⟩ => ⟨S4096x8, .f32⟩
  | .hbm, ⟨28, _⟩ => ⟨S4096x16, .f32⟩
  | .hbm, ⟨29, _⟩ => ⟨S1x1, .f32⟩
  | .local _ .vmem, ⟨0, _⟩ => ⟨S4096x1, .i32⟩
  | .local _ .vmem, ⟨1, _⟩ => ⟨S4096x1, .i32⟩
  | .local _ .vmem, ⟨2, _⟩ => ⟨S4096x1, .i32⟩
  | .local _ .vmem, ⟨3, _⟩ => ⟨S4096x1, .i32⟩
  | .local _ .vmem, ⟨4, _⟩ => ⟨S8x32, .f32⟩
  | .local _ .vmem, ⟨5, _⟩ => ⟨S49x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S256x16, .f32⟩
  | .local _ .vmem, ⟨10, _⟩ => ⟨S4x256x512, .f32⟩
  | .local _ .vmem, ⟨11, _⟩ => ⟨S4x256x512, .f32⟩
  | .local _ .vmem, ⟨12, _⟩ => ⟨S4x1x512, .f32⟩
  | .local _ .vmem, ⟨13, _⟩ => ⟨S4x1x512, .f32⟩
  | .local _ .vmem, ⟨14, _⟩ => ⟨S4x512x256, .f32⟩
  | .local _ .vmem, ⟨15, _⟩ => ⟨S4x512x256, .f32⟩
  | .local _ .vmem, ⟨16, _⟩ => ⟨S16x256, .f32⟩
  | .local _ .vmem, ⟨17, _⟩ => ⟨S256x64, .f32⟩
  | .local _ .vmem, ⟨18, _⟩ => ⟨S1x64, .f32⟩
  | .local _ .vmem, ⟨19, _⟩ => ⟨S64x8, .f32⟩
  | .local _ .vmem, ⟨20, _⟩ => ⟨S1x8, .f32⟩
  | .local _ .vmem, ⟨21, _⟩ => ⟨S4096x8, .f32⟩
  | .local _ .vmem, ⟨22, _⟩ => ⟨S4096x16, .f32⟩
  | .local _ .vmem, ⟨23, _⟩ => ⟨S1x1, .f32⟩
  | .local _ .vmem, ⟨24, _⟩ => ⟨S4096x256, .f32⟩
  | .local _ .vmem, ⟨25, _⟩ => ⟨S4096x16, .f32⟩
  | .local _ .vmem, ⟨26, _⟩ => ⟨S4096x256, .f32⟩
  | .local _ .vmem, ⟨27, _⟩ => ⟨S1x1, .f32⟩
  | .local _ .vmem, ⟨28, _⟩ => ⟨S1x1, .f32⟩
  | .local _ .vmem, ⟨29, _⟩ => ⟨S1x1, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9_0 : Ref sig .tc := ⟨.hbm, 27, rfl⟩
abbrev main_v9_1 : Ref sig .tc := ⟨.hbm, 28, rfl⟩
abbrev main_v9_2 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem10_1 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23

abbrev nD : Nat := 1
abbrev τ : Topo := Topo.v7x

variable {F : FTy → Type} [FloatOps F]

abbrev grid0 : Pipeline.Grid := ⟨1, ![4], ![false]⟩

def k0_cond4 (i : grid0.Coords) : BitVec 1 :=
  let arg0 : BitVec 32 := BitVec.ofNat 32 (i 0).val
  let c3_i32_103 : BitVec 32 := 3#32
  let v219 : BitVec 1 := Scalar.cmpi .eq arg0 c3_i32_103
  let v220 : BitVec 32 := Scalar.extui v219
  let c0_i32_104 : BitVec 32 := 0#32
  let v221 : BitVec 1 := Scalar.cmpi .ne v220 c0_i32_104
  v221

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S49x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S16x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4096x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4096x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S4096 : Shape := ⟨1, ![4096]⟩
abbrev S8x32 : Shape := ⟨2, ![8, 32]⟩
abbrev S49x256 : Shape := ⟨2, ![49, 256]⟩
abbrev S256 : Shape := ⟨1, ![256]⟩
abbrev S256x256 : Shape := ⟨2, ![256, 256]⟩
abbrev S256x16 : Shape := ⟨2, ![256, 16]⟩
abbrev S16x256x512 : Shape := ⟨3, ![16, 256, 512]⟩
abbrev S16x512 : Shape := ⟨2, ![16, 512]⟩
abbrev S16x512x256 : Shape := ⟨3, ![16, 512, 256]⟩
abbrev S16x256 : Shape := ⟨2, ![16, 256]⟩
abbrev S256x64 : Shape := ⟨2, ![256, 64]⟩
abbrev S64 : Shape := ⟨1, ![64]⟩
abbrev S64x8 : Shape := ⟨2, ![64, 8]⟩
abbrev S8 : Shape := ⟨1, ![8]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x32 : Shape := ⟨2, ![4096, 32]⟩
abbrev S4096x8 : Shape := ⟨2, ![4096, 8]⟩
abbrev S4096x49 : Shape := ⟨2, ![4096, 49]⟩
abbrev S4096x256 : Shape := ⟨2, ![4096, 256]⟩
abbrev S1x256 : Shape := ⟨2, ![1, 256]⟩
abbrev S4096x16 : Shape := ⟨2, ![4096, 16]⟩
abbrev S4096x4 : Shape := ⟨2, ![4096, 4]⟩
abbrev S4096x4x1 : Shape := ⟨3, ![4096, 4, 1]⟩
abbrev S4096x4x2 : Shape := ⟨3, ![4096, 4, 2]⟩
abbrev S4096x16x512 : Shape := ⟨3, ![4096, 16, 512]⟩
abbrev S1x16x512 : Shape := ⟨3, ![1, 16, 512]⟩
abbrev S16x256x4096 : Shape := ⟨3, ![16, 256, 4096]⟩
abbrev S4096x16x256 : Shape := ⟨3, ![4096, 16, 256]⟩
abbrev S1x16x256 : Shape := ⟨3, ![1, 16, 256]⟩
abbrev S16 : Shape := ⟨1, ![16]⟩
abbrev S4096x64 : Shape := ⟨2, ![4096, 64]⟩
abbrev S1x64 : Shape := ⟨2, ![1, 64]⟩
abbrev S1x8 : Shape := ⟨2, ![1, 8]⟩

abbrev nBuf : Space → Nat
  | .hbm => 305
  | .vmem => 0
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S4096, .i32⟩
  | 4 => ⟨S8x32, .f32⟩
  | 5 => ⟨S49x256, .f32⟩
  | 6 => ⟨S256, .f32⟩
  | 7 => ⟨S256x256, .f32⟩
  | 8 => ⟨S256, .f32⟩
  | 9 => ⟨S256x16, .f32⟩
  | 10 => ⟨S16x256x512, .f32⟩
  | 11 => ⟨S16x512, .f32⟩
  | 12 => ⟨S16x512x256, .f32⟩
  | 13 => ⟨S16x256, .f32⟩
  | 14 => ⟨S256x64, .f32⟩
  | 15 => ⟨S64, .f32⟩
  | 16 => ⟨S64x8, .f32⟩
  | 17 => ⟨S8, .f32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S4096x1, .i32⟩
  | 26 => ⟨S1, .i32⟩
  | 27 => ⟨S_, .i32⟩
  | 28 => ⟨S4096x1, .i32⟩
  | 29 => ⟨S4096x1, .i1⟩
  | 30 => ⟨S1x1, .i32⟩
  | 31 => ⟨S4096x1, .i32⟩
  | 32 => ⟨S4096x1, .i1⟩
  | 33 => ⟨S4096x1, .i1⟩
  | 34 => ⟨S_, .i1⟩
  | 35 => ⟨S4096, .i1⟩
  | 36 => ⟨S4096x32, .f32⟩
  | 37 => ⟨S4096x32, .i1⟩
  | 38 => ⟨S_, .f32⟩
  | 39 => ⟨S4096x32, .f32⟩
  | 40 => ⟨S4096x32, .f32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i32⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S_, .i32⟩
  | 63 => ⟨S4096, .i32⟩
  | 64 => ⟨S4096, .i32⟩
  | 65 => ⟨S_, .i32⟩
  | 66 => ⟨S4096, .i32⟩
  | 67 => ⟨S4096, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i32⟩
  | 74 => ⟨S_, .i32⟩
  | 75 => ⟨S4096, .i32⟩
  | 76 => ⟨S4096, .i32⟩
  | 77 => ⟨S_, .i32⟩
  | 78 => ⟨S4096, .i32⟩
  | 79 => ⟨S4096, .i32⟩
  | 80 => ⟨S_, .i32⟩
  | 81 => ⟨S4096, .i32⟩
  | 82 => ⟨S4096, .i32⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S4096x1, .i32⟩
  | 90 => ⟨S4096x1, .i32⟩
  | 91 => ⟨S4096x1, .i32⟩
  | 92 => ⟨S4096x1, .i32⟩
  | 93 => ⟨S4096x1, .i32⟩
  | 94 => ⟨S4096x1, .i32⟩
  | 95 => ⟨S4096x1, .i32⟩
  | 96 => ⟨S4096x1, .i32⟩
  | 97 => ⟨S4096x8, .i32⟩
  | 98 => ⟨S4096x8, .f32⟩
  | 99 => ⟨S_, .i32⟩
  | 100 => ⟨S4096, .i32⟩
  | 101 => ⟨S4096, .i32⟩
  | 102 => ⟨S_, .i32⟩
  | 103 => ⟨S4096, .i32⟩
  | 104 => ⟨S4096, .i32⟩
  | 105 => ⟨S_, .i32⟩
  | 106 => ⟨S4096, .i32⟩
  | 107 => ⟨S4096, .i32⟩
  | 108 => ⟨S_, .i32⟩
  | 109 => ⟨S4096, .i32⟩
  | 110 => ⟨S4096, .i32⟩
  | 111 => ⟨S_, .i32⟩
  | 112 => ⟨S4096, .i32⟩
  | 113 => ⟨S4096, .i32⟩
  | 114 => ⟨S_, .i32⟩
  | 115 => ⟨S4096, .i32⟩
  | 116 => ⟨S4096, .i32⟩
  | 117 => ⟨S_, .i32⟩
  | 118 => ⟨S4096, .i32⟩
  | 119 => ⟨S4096, .i32⟩
  | 120 => ⟨S_, .i32⟩
  | 121 => ⟨S4096, .i32⟩
  | 122 => ⟨S4096, .i32⟩
  | 123 => ⟨S_, .i32⟩
  | 124 => ⟨S4096, .i32⟩
  | 125 => ⟨S4096, .i32⟩
  | 126 => ⟨S_, .i32⟩
  | 127 => ⟨S4096, .i32⟩
  | _ => ⟨S4096, .i32⟩

abbrev hbmTy0_1 (i : Nat) : BufTy := match i % 128 with
  | 0 => ⟨S4096, .i32⟩
  | 1 => ⟨S_, .i32⟩
  | 2 => ⟨S4096, .i32⟩
  | 3 => ⟨S4096, .i32⟩
  | 4 => ⟨S_, .i32⟩
  | 5 => ⟨S4096, .i32⟩
  | 6 => ⟨S4096, .i32⟩
  | 7 => ⟨S_, .i32⟩
  | 8 => ⟨S4096, .i32⟩
  | 9 => ⟨S4096, .i32⟩
  | 10 => ⟨S_, .i32⟩
  | 11 => ⟨S4096, .i32⟩
  | 12 => ⟨S4096, .i32⟩
  | 13 => ⟨S_, .i32⟩
  | 14 => ⟨S4096, .i32⟩
  | 15 => ⟨S4096, .i32⟩
  | 16 => ⟨S_, .i32⟩
  | 17 => ⟨S4096, .i32⟩
  | 18 => ⟨S4096, .i32⟩
  | 19 => ⟨S4096x1, .i32⟩
  | 20 => ⟨S4096x1, .i32⟩
  | 21 => ⟨S4096x1, .i32⟩
  | 22 => ⟨S4096x1, .i32⟩
  | 23 => ⟨S4096x1, .i32⟩
  | 24 => ⟨S4096x1, .i32⟩
  | 25 => ⟨S4096x1, .i32⟩
  | 26 => ⟨S4096x1, .i32⟩
  | 27 => ⟨S4096x8, .i32⟩
  | 28 => ⟨S4096x8, .f32⟩
  | 29 => ⟨S4096x1, .i32⟩
  | 30 => ⟨S4096x1, .f32⟩
  | 31 => ⟨S4096x49, .f32⟩
  | 32 => ⟨S4096x256, .f32⟩
  | 33 => ⟨S1x256, .f32⟩
  | 34 => ⟨S4096x256, .f32⟩
  | 35 => ⟨S4096x256, .f32⟩
  | 36 => ⟨S4096x256, .f32⟩
  | 37 => ⟨S4096x256, .f32⟩
  | 38 => ⟨S1x256, .f32⟩
  | 39 => ⟨S4096x256, .f32⟩
  | 40 => ⟨S4096x256, .f32⟩
  | 41 => ⟨S4096x256, .f32⟩
  | 42 => ⟨S4096x16, .f32⟩
  | 43 => ⟨S_, .f32⟩
  | 44 => ⟨S4096, .f32⟩
  | 45 => ⟨S_, .f32⟩
  | 46 => ⟨S4096, .f32⟩
  | 47 => ⟨S4096, .f32⟩
  | 48 => ⟨S4096x1, .f32⟩
  | 49 => ⟨S4096x16, .f32⟩
  | 50 => ⟨S4096x16, .f32⟩
  | 51 => ⟨S4096x16, .f32⟩
  | 52 => ⟨S_, .f32⟩
  | 53 => ⟨S4096, .f32⟩
  | 54 => ⟨S4096x1, .f32⟩
  | 55 => ⟨S4096x16, .f32⟩
  | 56 => ⟨S4096x16, .f32⟩
  | 57 => ⟨S4096x4, .f32⟩
  | 58 => ⟨S4096x4, .i32⟩
  | 59 => ⟨S_, .f32⟩
  | 60 => ⟨S4096, .f32⟩
  | 61 => ⟨S4096x1, .f32⟩
  | 62 => ⟨S_, .f32⟩
  | 63 => ⟨S4096x1, .f32⟩
  | 64 => ⟨S4096x1, .f32⟩
  | 65 => ⟨S4096x4, .f32⟩
  | 66 => ⟨S4096x4, .f32⟩
  | 67 => ⟨S_, .f32⟩
  | 68 => ⟨S4096x16, .f32⟩
  | 69 => ⟨S4096, .i32⟩
  | 70 => ⟨S4096x1, .i32⟩
  | 71 => ⟨S_, .i32⟩
  | 72 => ⟨S4096x1, .i32⟩
  | 73 => ⟨S4096x1, .i1⟩
  | 74 => ⟨S_, .i32⟩
  | 75 => ⟨S4096x1, .i32⟩
  | 76 => ⟨S4096x1, .i32⟩
  | 77 => ⟨S4096x1, .i32⟩
  | 78 => ⟨S_, .i32⟩
  | 79 => ⟨S4096x4, .i32⟩
  | 80 => ⟨S4096x4, .i1⟩
  | 81 => ⟨S_, .i32⟩
  | 82 => ⟨S4096x4, .i32⟩
  | 83 => ⟨S4096x4, .i32⟩
  | 84 => ⟨S4096x4, .i32⟩
  | 85 => ⟨S4096x4, .i32⟩
  | 86 => ⟨S4096x4x1, .i32⟩
  | 87 => ⟨S4096x4x1, .i32⟩
  | 88 => ⟨S4096x4x2, .i32⟩
  | 89 => ⟨S4096x16, .f32⟩
  | 90 => ⟨S4096x16x512, .f32⟩
  | 91 => ⟨S1x16x512, .f32⟩
  | 92 => ⟨S4096x16x512, .f32⟩
  | 93 => ⟨S4096x16x512, .f32⟩
  | 94 => ⟨S_, .f32⟩
  | 95 => ⟨S4096x16x512, .f32⟩
  | 96 => ⟨S4096x16x512, .f32⟩
  | 97 => ⟨S16x256x4096, .f32⟩
  | 98 => ⟨S4096x16x256, .f32⟩
  | 99 => ⟨S1x16x256, .f32⟩
  | 100 => ⟨S4096x16x256, .f32⟩
  | 101 => ⟨S4096x16x256, .f32⟩
  | 102 => ⟨S4096x256, .f32⟩
  | 103 => ⟨S_, .f32⟩
  | 104 => ⟨S16, .f32⟩
  | 105 => ⟨S_, .f32⟩
  | 106 => ⟨S16, .f32⟩
  | 107 => ⟨S16, .f32⟩
  | 108 => ⟨S_, .f32⟩
  | 109 => ⟨S16, .f32⟩
  | 110 => ⟨S_, .f32⟩
  | 111 => ⟨S16, .f32⟩
  | 112 => ⟨S16, .f32⟩
  | 113 => ⟨S_, .f32⟩
  | 114 => ⟨S_, .f32⟩
  | 115 => ⟨S_, .f32⟩
  | 116 => ⟨S16, .f32⟩
  | 117 => ⟨S_, .f32⟩
  | 118 => ⟨S_, .f32⟩
  | 119 => ⟨S_, .f32⟩
  | 120 => ⟨S_, .f32⟩
  | 121 => ⟨S4096x16, .f32⟩
  | 122 => ⟨S4096x16, .f32⟩
  | 123 => ⟨S4096x16, .f32⟩
  | 124 => ⟨S_, .f32⟩
  | 125 => ⟨S4096, .f32⟩
  | 126 => ⟨S_, .f32⟩
  | 127 => ⟨S_, .f32⟩
  | _ => ⟨S4096, .i32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S16x256x512, .f32⟩
  | 5 => ⟨S16x256x512, .f32⟩
  | 6 => ⟨S16x512x256, .f32⟩
  | 7 => ⟨S16x512x256, .f32⟩
  | 8 => ⟨S_, .f32⟩
  | 9 => ⟨S16x256x512, .f32⟩
  | 10 => ⟨S16x256x512, .f32⟩
  | 11 => ⟨S16x256x512, .f32⟩
  | 12 => ⟨S_, .f32⟩
  | 13 => ⟨S_, .f32⟩
  | 14 => ⟨S_, .f32⟩
  | 15 => ⟨S_, .f32⟩
  | 16 => ⟨S_, .f32⟩
  | 17 => ⟨S16x512x256, .f32⟩
  | 18 => ⟨S16x512x256, .f32⟩
  | 19 => ⟨S16x512x256, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S4096x64, .f32⟩
  | 30 => ⟨S1x64, .f32⟩
  | 31 => ⟨S4096x64, .f32⟩
  | 32 => ⟨S4096x64, .f32⟩
  | 33 => ⟨S_, .f32⟩
  | 34 => ⟨S4096x64, .f32⟩
  | 35 => ⟨S4096x64, .f32⟩
  | 36 => ⟨S4096x8, .f32⟩
  | 37 => ⟨S1x8, .f32⟩
  | 38 => ⟨S4096x8, .f32⟩
  | 39 => ⟨S4096x8, .f32⟩
  | 40 => ⟨S4096x8, .f32⟩
  | 41 => ⟨S4096x8, .f32⟩
  | 42 => ⟨S_, .f32⟩
  | 43 => ⟨S4096x8, .f32⟩
  | 44 => ⟨S4096x8, .f32⟩
  | 45 => ⟨S_, .f32⟩
  | 46 => ⟨S4096x8, .f32⟩
  | 47 => ⟨S4096x8, .f32⟩
  | 48 => ⟨S1x1, .f32⟩
  | _ => ⟨S4096, .i32⟩

abbrev hbmTy (i : Nat) : BufTy := match i / 128 with
  | 0 => hbmTy0_0 i
  | 1 => hbmTy0_1 i
  | 2 => hbmTy0_2 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v0 : Ref sig .tc := ⟨.hbm, 40, rfl⟩
abbrev main_c : Ref sig .tc := ⟨.hbm, 41, rfl⟩
abbrev main_v1 : Ref sig .tc := ⟨.hbm, 42, rfl⟩
abbrev main_v2 : Ref sig .tc := ⟨.hbm, 43, rfl⟩
abbrev main_c_0 : Ref sig .tc := ⟨.hbm, 44, rfl⟩
abbrev main_v3 : Ref sig .tc := ⟨.hbm, 45, rfl⟩
abbrev main_v4 : Ref sig .tc := ⟨.hbm, 46, rfl⟩
abbrev main_c_1 : Ref sig .tc := ⟨.hbm, 47, rfl⟩
abbrev main_v5 : Ref sig .tc := ⟨.hbm, 48, rfl⟩
abbrev main_v6 : Ref sig .tc := ⟨.hbm, 49, rfl⟩
abbrev main_c_2 : Ref sig .tc := ⟨.hbm, 50, rfl⟩
abbrev main_v7 : Ref sig .tc := ⟨.hbm, 51, rfl⟩
abbrev main_v8 : Ref sig .tc := ⟨.hbm, 52, rfl⟩
abbrev main_c_3 : Ref sig .tc := ⟨.hbm, 53, rfl⟩
abbrev main_v9 : Ref sig .tc := ⟨.hbm, 54, rfl⟩
abbrev main_v10 : Ref sig .tc := ⟨.hbm, 55, rfl⟩
abbrev main_c_4 : Ref sig .tc := ⟨.hbm, 56, rfl⟩
abbrev main_v11 : Ref sig .tc := ⟨.hbm, 57, rfl⟩
abbrev main_v12 : Ref sig .tc := ⟨.hbm, 58, rfl⟩
abbrev main_c_5 : Ref sig .tc := ⟨.hbm, 59, rfl⟩
abbrev main_v13 : Ref sig .tc := ⟨.hbm, 60, rfl⟩
abbrev main_v14 : Ref sig .tc := ⟨.hbm, 61, rfl⟩
abbrev main_c_6 : Ref sig .tc := ⟨.hbm, 62, rfl⟩
abbrev main_v15 : Ref sig .tc := ⟨.hbm, 63, rfl⟩
abbrev main_v16 : Ref sig .tc := ⟨.hbm, 64, rfl⟩
abbrev main_c_7 : Ref sig .tc := ⟨.hbm, 65, rfl⟩
abbrev main_v17 : Ref sig .tc := ⟨.hbm, 66, rfl⟩
abbrev main_v18 : Ref sig .tc := ⟨.hbm, 67, rfl⟩
abbrev main_c_8 : Ref sig .tc := ⟨.hbm, 68, rfl⟩
abbrev main_v19 : Ref sig .tc := ⟨.hbm, 69, rfl⟩
abbrev main_v20 : Ref sig .tc := ⟨.hbm, 70, rfl⟩
abbrev main_c_9 : Ref sig .tc := ⟨.hbm, 71, rfl⟩
abbrev main_v21 : Ref sig .tc := ⟨.hbm, 72, rfl⟩
abbrev main_v22 : Ref sig .tc := ⟨.hbm, 73, rfl⟩
abbrev main_c_10 : Ref sig .tc := ⟨.hbm, 74, rfl⟩
abbrev main_v23 : Ref sig .tc := ⟨.hbm, 75, rfl⟩
abbrev main_v24 : Ref sig .tc := ⟨.hbm, 76, rfl⟩
abbrev main_c_11 : Ref sig .tc := ⟨.hbm, 77, rfl⟩
abbrev main_v25 : Ref sig .tc := ⟨.hbm, 78, rfl⟩
abbrev main_v26 : Ref sig .tc := ⟨.hbm, 79, rfl⟩
abbrev main_c_12 : Ref sig .tc := ⟨.hbm, 80, rfl⟩
abbrev main_v27 : Ref sig .tc := ⟨.hbm, 81, rfl⟩
abbrev main_v28 : Ref sig .tc := ⟨.hbm, 82, rfl⟩
abbrev main_c_13 : Ref sig .tc := ⟨.hbm, 83, rfl⟩
abbrev main_v29 : Ref sig .tc := ⟨.hbm, 84, rfl⟩
abbrev main_v30 : Ref sig .tc := ⟨.hbm, 85, rfl⟩
abbrev main_c_14 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_c_15 : Ref sig .tc := ⟨.hbm, 99, rfl⟩
abbrev main_v43 : Ref sig .tc := ⟨.hbm, 100, rfl⟩
abbrev main_v44 : Ref sig .tc := ⟨.hbm, 101, rfl⟩
abbrev main_c_16 : Ref sig .tc := ⟨.hbm, 102, rfl⟩
abbrev main_v45 : Ref sig .tc := ⟨.hbm, 103, rfl⟩
abbrev main_v46 : Ref sig .tc := ⟨.hbm, 104, rfl⟩
abbrev main_c_17 : Ref sig .tc := ⟨.hbm, 105, rfl⟩
abbrev main_v47 : Ref sig .tc := ⟨.hbm, 106, rfl⟩
abbrev main_v48 : Ref sig .tc := ⟨.hbm, 107, rfl⟩
abbrev main_c_18 : Ref sig .tc := ⟨.hbm, 108, rfl⟩
abbrev main_v49 : Ref sig .tc := ⟨.hbm, 109, rfl⟩
abbrev main_v50 : Ref sig .tc := ⟨.hbm, 110, rfl⟩
abbrev main_c_19 : Ref sig .tc := ⟨.hbm, 111, rfl⟩
abbrev main_v51 : Ref sig .tc := ⟨.hbm, 112, rfl⟩
abbrev main_v52 : Ref sig .tc := ⟨.hbm, 113, rfl⟩
abbrev main_c_20 : Ref sig .tc := ⟨.hbm, 114, rfl⟩
abbrev main_v53 : Ref sig .tc := ⟨.hbm, 115, rfl⟩
abbrev main_v54 : Ref sig .tc := ⟨.hbm, 116, rfl⟩
abbrev main_c_21 : Ref sig .tc := ⟨.hbm, 117, rfl⟩
abbrev main_v55 : Ref sig .tc := ⟨.hbm, 118, rfl⟩
abbrev main_v56 : Ref sig .tc := ⟨.hbm, 119, rfl⟩
abbrev main_c_22 : Ref sig .tc := ⟨.hbm, 120, rfl⟩
abbrev main_v57 : Ref sig .tc := ⟨.hbm, 121, rfl⟩
abbrev main_v58 : Ref sig .tc := ⟨.hbm, 122, rfl⟩
abbrev main_c_23 : Ref sig .tc := ⟨.hbm, 123, rfl⟩
abbrev main_v59 : Ref sig .tc := ⟨.hbm, 124, rfl⟩
abbrev main_v60 : Ref sig .tc := ⟨.hbm, 125, rfl⟩
abbrev main_c_24 : Ref sig .tc := ⟨.hbm, 126, rfl⟩
abbrev main_v61 : Ref sig .tc := ⟨.hbm, 127, rfl⟩
abbrev main_v62 : Ref sig .tc := ⟨.hbm, 128, rfl⟩
abbrev main_c_25 : Ref sig .tc := ⟨.hbm, 129, rfl⟩
abbrev main_v63 : Ref sig .tc := ⟨.hbm, 130, rfl⟩
abbrev main_v64 : Ref sig .tc := ⟨.hbm, 131, rfl⟩
abbrev main_c_26 : Ref sig .tc := ⟨.hbm, 132, rfl⟩
abbrev main_v65 : Ref sig .tc := ⟨.hbm, 133, rfl⟩
abbrev main_v66 : Ref sig .tc := ⟨.hbm, 134, rfl⟩
abbrev main_c_27 : Ref sig .tc := ⟨.hbm, 135, rfl⟩
abbrev main_v67 : Ref sig .tc := ⟨.hbm, 136, rfl⟩
abbrev main_v68 : Ref sig .tc := ⟨.hbm, 137, rfl⟩
abbrev main_c_28 : Ref sig .tc := ⟨.hbm, 138, rfl⟩
abbrev main_v69 : Ref sig .tc := ⟨.hbm, 139, rfl⟩
abbrev main_v70 : Ref sig .tc := ⟨.hbm, 140, rfl⟩
abbrev main_c_29 : Ref sig .tc := ⟨.hbm, 141, rfl⟩
abbrev main_v71 : Ref sig .tc := ⟨.hbm, 142, rfl⟩
abbrev main_v72 : Ref sig .tc := ⟨.hbm, 143, rfl⟩
abbrev main_c_30 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_cst : Ref sig .tc := ⟨.hbm, 171, rfl⟩
abbrev main_v99 : Ref sig .tc := ⟨.hbm, 172, rfl⟩
abbrev main_cst_31 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_cst_32 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_values : Ref sig .tc := ⟨.hbm, 185, rfl⟩
abbrev main_indices : Ref sig .tc := ⟨.hbm, 186, rfl⟩
abbrev main_cst_33 : Ref sig .tc := ⟨.hbm, 187, rfl⟩
abbrev main_v110 : Ref sig .tc := ⟨.hbm, 188, rfl⟩
abbrev main_v111 : Ref sig .tc := ⟨.hbm, 189, rfl⟩
abbrev main_cst_34 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_cst_35 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_c_36 : Ref sig .tc := ⟨.hbm, 199, rfl⟩
abbrev main_v119 : Ref sig .tc := ⟨.hbm, 200, rfl⟩
abbrev main_v120 : Ref sig .tc := ⟨.hbm, 201, rfl⟩
abbrev main_c_37 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_c_38 : Ref sig .tc := ⟨.hbm, 206, rfl⟩
abbrev main_v124 : Ref sig .tc := ⟨.hbm, 207, rfl⟩
abbrev main_v125 : Ref sig .tc := ⟨.hbm, 208, rfl⟩
abbrev main_c_39 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_call1_cst : Ref sig .tc := ⟨.hbm, 222, rfl⟩
abbrev main_call1_v0 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_cst_40 : Ref sig .tc := ⟨.hbm, 231, rfl⟩
abbrev main_v145 : Ref sig .tc := ⟨.hbm, 232, rfl⟩
abbrev main_cst_41 : Ref sig .tc := ⟨.hbm, 233, rfl⟩
abbrev main_v146 : Ref sig .tc := ⟨.hbm, 234, rfl⟩
abbrev main_v147 : Ref sig .tc := ⟨.hbm, 235, rfl⟩
abbrev main_cst_42 : Ref sig .tc := ⟨.hbm, 236, rfl⟩
abbrev main_v148 : Ref sig .tc := ⟨.hbm, 237, rfl⟩
abbrev main_cst_43 : Ref sig .tc := ⟨.hbm, 238, rfl⟩
abbrev main_v149 : Ref sig .tc := ⟨.hbm, 239, rfl⟩
abbrev main_v150 : Ref sig .tc := ⟨.hbm, 240, rfl⟩
abbrev main_cst_44 : Ref sig .tc := ⟨.hbm, 241, rfl⟩
abbrev main_cst_45 : Ref sig .tc := ⟨.hbm, 242, rfl⟩
abbrev main_v151 : Ref sig .tc := ⟨.hbm, 243, rfl⟩
abbrev main_v152 : Ref sig .tc := ⟨.hbm, 244, rfl⟩
abbrev main_cst_46 : Ref sig .tc := ⟨.hbm, 245, rfl⟩
abbrev main_v153 : Ref sig .tc := ⟨.hbm, 246, rfl⟩
abbrev main_v154 : Ref sig .tc := ⟨.hbm, 247, rfl⟩
abbrev main_cst_47 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_cst_48 : Ref sig .tc := ⟨.hbm, 252, rfl⟩
abbrev main_v158 : Ref sig .tc := ⟨.hbm, 253, rfl⟩
abbrev main_cst_49 : Ref sig .tc := ⟨.hbm, 254, rfl⟩
abbrev main_v159 : Ref sig .tc := ⟨.hbm, 255, rfl⟩
abbrev main_cst_50 : Ref sig .tc := ⟨.hbm, 256, rfl⟩
abbrev main_v160 : Ref sig .tc := ⟨.hbm, 257, rfl⟩
abbrev main_cst_51 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_52 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_cst_53 : Ref sig .tc := ⟨.hbm, 268, rfl⟩
abbrev main_v169 : Ref sig .tc := ⟨.hbm, 269, rfl⟩
abbrev main_cst_54 : Ref sig .tc := ⟨.hbm, 270, rfl⟩
abbrev main_v170 : Ref sig .tc := ⟨.hbm, 271, rfl⟩
abbrev main_cst_55 : Ref sig .tc := ⟨.hbm, 272, rfl⟩
abbrev main_v171 : Ref sig .tc := ⟨.hbm, 273, rfl⟩
abbrev main_v172 : Ref sig .tc := ⟨.hbm, 274, rfl⟩
abbrev main_v173 : Ref sig .tc := ⟨.hbm, 275, rfl⟩
abbrev main_cst_56 : Ref sig .tc := ⟨.hbm, 276, rfl⟩
abbrev main_v174 : Ref sig .tc := ⟨.hbm, 277, rfl⟩
abbrev main_cst_57 : Ref sig .tc := ⟨.hbm, 278, rfl⟩
abbrev main_v175 : Ref sig .tc := ⟨.hbm, 279, rfl⟩
abbrev main_v176 : Ref sig .tc := ⟨.hbm, 280, rfl⟩
abbrev main_cst_58 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_call2_cst : Ref sig .tc := ⟨.hbm, 289, rfl⟩
abbrev main_call2_v0 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_v190 : Ref sig .tc := ⟨.hbm, 297, rfl⟩
abbrev main_cst_59 : Ref sig .tc := ⟨.hbm, 298, rfl⟩
abbrev main_v191 : Ref sig .tc := ⟨.hbm, 299, rfl⟩
abbrev main_v192 : Ref sig .tc := ⟨.hbm, 300, rfl⟩
abbrev main_cst_60 : Ref sig .tc := ⟨.hbm, 301, rfl⟩
abbrev main_v193 : Ref sig .tc := ⟨.hbm, 302, rfl⟩
abbrev main_v194 : Ref sig .tc := ⟨.hbm, 303, rfl⟩
abbrev main_v195 : Ref sig .tc := ⟨.hbm, 304, rfl⟩

abbrev nD : Nat := 1
abbrev τ : Topo := Topo.v7x

variable {F : FTy → Type} [FloatOps F]
-- ==== Proof.RunBase.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, k0_cond1, e0]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the first point only — by arithmetic of the point. -/
theorem hcond0_1 : ∀ t : Fin cfg0.N, cond0_1 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_1, e0]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := (Scalar.cmpi .ne (Scalar.extui (Scalar.cmpi .sgt (BitVec.ofNat 32 (i 0).val) 0#32)) 0#32) = 1#1
/-- It holds at the points from point 1 on — decided over the grid. -/
theorem hcond0_2 : ∀ t : Fin cfg0.N, cond0_2 (grid0.coords t) ↔ 1 ≤ t.val :=
  (by decide +kernel : ∀ t : Fin grid0.N, cond0_2 (grid0.coords t) ↔ 1 ≤ t.val)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [cond0_3, k0_cond4, e0]
    word_cmp
   : ∀ t : Fin grid0.N, cond0_3 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-- Window 17 is never idle (an input). -/
theorem liveAt0_17 : ∀ t : Fin cfg0.N, cfg0.idle 17 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4096x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S49x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x16 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x256x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4x1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S4x512x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S16x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x64 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x64 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S64x8 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x8 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S4096x8 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S4096x16 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x1 .f32 := win0_20.stage (cfg0.slots t 20)
abbrev hs0_20 (t : Fin cfg0.N) : (ms0_20 t).IsWhole := hstage0_20 ((cfg0.slots t 20).cast nbuf0_20)
/-- The scratch operands: whole scoped buffers of the kernel's own, passed beside the windows. -/
abbrev scM0_0 : Memref sig .tc .vmem S4096x256 .f32 := Memref.whole cc0_scratch0
abbrev scM0_1 : Memref sig .tc .vmem S4096x16 .f32 := Memref.whole cc0_scratch1
abbrev scM0_2 : Memref sig .tc .vmem S4096x256 .f32 := Memref.whole cc0_scratch2
abbrev scM0_3 : Memref sig .tc .vmem S1x1 .f32 := Memref.whole cc0_scratch3
abbrev scM0_4 : Memref sig .tc .vmem S1x1 .f32 := Memref.whole cc0_scratch4
abbrev scM0_5 : Memref sig .tc .vmem S1x1 .f32 := Memref.whole cc0_scratch5
/-- The scratch `arg22` the kernel carries between points, as a view: what it holds is stated through it. -/
abbrev VS0_0 : View sig .tc .vmem S4096x256 .f32 := scM0_0.view
/-- The scratch `arg23` the kernel carries between points, as a view: what it holds is stated through it. -/
abbrev VS0_1 : View sig .tc .vmem S4096x16 .f32 := scM0_1.view
/-- The scratch `arg24` the kernel carries between points, as a view: what it holds is stated through it. -/
abbrev VS0_2 : View sig .tc .vmem S4096x256 .f32 := scM0_2.view
/-- The scratch `arg25` the kernel carries between points, as a view: what it holds is stated through it. -/
abbrev VS0_3 : View sig .tc .vmem S1x1 .f32 := scM0_3.view
/-- The scratch `arg26` the kernel carries between points, as a view: what it holds is stated through it. -/
abbrev VS0_4 : View sig .tc .vmem S1x1 .f32 := scM0_4.view
/-- The scratch `arg27` the kernel carries between points, as a view: what it holds is stated through it. -/
abbrev VS0_5 : View sig .tc .vmem S1x1 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The staged results as views: what they hold is stated through these. -/
abbrev VO18 : View sig .tc .vmem S4096x8 .f32 := (ms0_18 t0_3).view
abbrev VO19 : View sig .tc .vmem S4096x16 .f32 := (ms0_19 t0_0).view
abbrev VO20 : View sig .tc .vmem S1x1 .f32 := (ms0_20 t0_3).view

/-! ## Which of the three cases a point is -/

/-- A condition of the first point holds there. -/
theorem cA0 (t : Fin cfg0.N) (h : t.val = 0) : cond0_0 (grid0.coords t) := (hcond0_0 t).mpr (by omega)
/-- A condition of the first point holds there. -/
theorem cA1 (t : Fin cfg0.N) (h : t.val = 0) : cond0_1 (grid0.coords t) := (hcond0_1 t).mpr (by omega)
/-- A condition of the later points fails at the first. -/
theorem cA2 (t : Fin cfg0.N) (h : t.val = 0) : ¬cond0_2 (grid0.coords t) := fun h' => by have := (hcond0_2 t).mp h'; omega
/-- A condition of the later points fails at the first. -/
theorem cA3 (t : Fin cfg0.N) (h : t.val = 0) : ¬cond0_3 (grid0.coords t) := fun h' => by have := (hcond0_3 t).mp h'; omega
/-- There are four points. -/
theorem lt4 (t : Fin cfg0.N) : t.val < 4 := Nat.lt_of_lt_of_eq t.isLt N_0
/-- A condition of the first point fails at the later ones. -/
theorem cB0 (t : Fin cfg0.N) (h : t.val ≠ 0) : ¬cond0_0 (grid0.coords t) := fun h' => by
  have := (hcond0_0 t).mp h'; have := lt4 t; omega
/-- A condition of the first point fails at the later ones. -/
theorem cB1 (t : Fin cfg0.N) (h : t.val ≠ 0) : ¬cond0_1 (grid0.coords t) := fun h' => by
  have := (hcond0_1 t).mp h'; have := lt4 t; omega
/-- The accumulating branch is taken at the later points. -/
theorem cB2 (t : Fin cfg0.N) (h : t.val ≠ 0) : cond0_2 (grid0.coords t) := (hcond0_2 t).mpr (by omega)
/-- The head is not computed before the last point. -/
theorem cB3 (t : Fin cfg0.N) (h3 : t.val ≠ 3) : ¬cond0_3 (grid0.coords t) := fun h' => by
  have := (hcond0_3 t).mp h'; have := lt4 t; omega
/-- The head is computed at the last point. -/
theorem cC3 (t : Fin cfg0.N) (h3 : t.val = 3) : cond0_3 (grid0.coords t) := (hcond0_3 t).mpr (by omega)

end Cert.KernelIdeal.Hand

end
-- ==== Proof.RunA.lean ====
module

public import proofs.«01_k».proof.Proof.RunBase

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- At the first point the body stores the encoded input, the gates, the routing statistics, the routing probabilities and the first accumulated contributions; the two results of the last point keep their contents. The lists of stored pieces are found by running the body. -/
noncomputable def kernelRun0_A (c : Dev nD) (i : grid0.Coords) (arg1 : Memref sig .tc .vmem S4096x1 .i32) (harg1 : arg1.IsWhole) (arg2 : Memref sig .tc .vmem S4096x1 .i32) (harg2 : arg2.IsWhole) (arg3 : Memref sig .tc .vmem S4096x1 .i32) (harg3 : arg3.IsWhole) (arg4 : Memref sig .tc .vmem S4096x1 .i32) (harg4 : arg4.IsWhole) (arg5 : Memref sig .tc .vmem S8x32 .f32) (harg5 : arg5.IsWhole) (arg6 : Memref sig .tc .vmem S49x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x16 .f32) (harg10 : arg10.IsWhole) (arg11 : Memref sig .tc .vmem S4x256x512 .f32) (harg11 : arg11.IsWhole) (arg12 : Memref sig .tc .vmem S4x1x512 .f32) (harg12 : arg12.IsWhole) (arg13 : Memref sig .tc .vmem S4x512x256 .f32) (harg13 : arg13.IsWhole) (arg14 : Memref sig .tc .vmem S16x256 .f32) (harg14 : arg14.IsWhole) (arg15 : Memref sig .tc .vmem S256x64 .f32) (harg15 : arg15.IsWhole) (arg16 : Memref sig .tc .vmem S1x64 .f32) (harg16 : arg16.IsWhole) (arg17 : Memref sig .tc .vmem S64x8 .f32) (harg17 : arg17.IsWhole) (arg18 : Memref sig .tc .vmem S1x8 .f32) (harg18 : arg18.IsWhole) (arg19 : Memref sig .tc .vmem S4096x8 .f32) (harg19 : arg19.IsWhole) (arg20 : Memref sig .tc .vmem S4096x16 .f32) (harg20 : arg20.IsWhole) (arg21 : Memref sig .tc .vmem S1x1 .f32) (harg21 : arg21.IsWhole) (arg22 : Memref sig .tc .vmem S4096x256 .f32) (harg22 : arg22.IsWhole) (arg23 : Memref sig .tc .vmem S4096x16 .f32) (harg23 : arg23.IsWhole) (arg24 : Memref sig .tc .vmem S4096x256 .f32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x1 .f32) (harg27 : arg27.IsWhole) (hc0 : cond0_0 i) (hc1 : cond0_1 i) (hc2 : ¬cond0_2 i) (hc3 : ¬cond0_3 i)
    (x0 : Vec F S4096x1 .i32) (x1 : Vec F S4096x1 .i32) (x2 : Vec F S4096x1 .i32) (x3 : Vec F S4096x1 .i32) (x4 : Vec F S8x32 .f32) (x5 : Vec F S49x256 .f32) (x6 : Vec F S1x256 .f32) (x7 : Vec F S256x256 .f32) (x8 : Vec F S1x256 .f32) (x9 : Vec F S256x16 .f32) (x10 : Vec F S4x256x512 .f32) (x11 : Vec F S4x1x512 .f32) (x12 : Vec F S4x512x256 .f32) (x13 : Vec F S16x256 .f32) (x14 : Vec F S256x64 .f32) (x15 : Vec F S1x64 .f32) (x16 : Vec F S64x8 .f32) (x17 : Vec F S1x8 .f32)  :
    Σ' (LO19 : List (View.Piece (Elt F) S4096x16 .f32)), Σ' (LS0 : List (View.Piece (Elt F) S4096x256 .f32)), Σ' (LS1 : List (View.Piece (Elt F) S4096x16 .f32)), Σ' (LS2 : List (View.Piece (Elt F) S4096x256 .f32)), Σ' (LS3 : List (View.Piece (Elt F) S1x1 .f32)), Σ' (LS4 : List (View.Piece (Elt F) S1x1 .f32)), { LS5 : List (View.Piece (Elt F) S1x1 .f32) //
      ∀ (E : Set ℕ) (K : PUnit → sProp 𝕄) (y18 : Vec F S4096x8 .f32) (y20 : Vec F S1x1 .f32),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare y18 ∗ (∃ d, owns (c : Thread nD τ) arg20 fullShare d) ∗ owns (c : Thread nD τ) arg21 fullShare y20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare y18 ∗ (∃ f, arg20.view.loc (c : Thread nD τ) ↦[arg20.view.set]{fullShare} arg20.view.writes (Elt F) f LO19) ∗ owns (c : Thread nD τ) arg21 fullShare y20 ∗ (∃ f, arg22.view.loc (c : Thread nD τ) ↦[arg22.view.set]{fullShare} arg22.view.writes (Elt F) f LS0) ∗ (∃ f, arg23.view.loc (c : Thread nD τ) ↦[arg23.view.set]{fullShare} arg23.view.writes (Elt F) f LS1) ∗ (∃ f, arg24.view.loc (c : Thread nD τ) ↦[arg24.view.set]{fullShare} arg24.view.writes (Elt F) f LS2) ∗ (∃ f, arg25.view.loc (c : Thread nD τ) ↦[arg25.view.set]{fullShare} arg25.view.writes (Elt F) f LS3) ∗ (∃ f, arg26.view.loc (c : Thread nD τ) ↦[arg26.view.set]{fullShare} arg26.view.writes (Elt F) f LS4) ∗ (∃ f, arg27.view.loc (c : Thread nD τ) ↦[arg27.view.set]{fullShare} arg27.view.writes (Elt F) f LS5)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, fun E K y18 y20 => ?run⟩
  case run =>
    simp only [cc0__fused_eq_skeleton]; unfold cc0__fused_skel
    simp only [k0_part6_eq_skeleton, k0_part1_eq_skeleton, k0_part2_eq_skeleton, k0_part3_eq_skeleton, k0_part4_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%df19, %f19, -, H19⟩, ⟨%f20, %hf20, H20⟩, ⟨%dfs0, %fs0, -, HS0⟩, ⟨%dfs1, %fs1, -, HS1⟩, ⟨%dfs2, %fs2, -, HS2⟩, ⟨%dfs3, %fs3, -, HS3⟩, ⟨%dfs4, %fs4, -, HS4⟩, ⟨%dfs5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg21.eq_unread hf20
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]
    · iexists _; isplitr; · ipureintro; exact harg21.read_unread _
      iexact H20
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.RunB.lean ====
module

public import proofs.«01_k».proof.Proof.RunBase

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- At a middle point the body adds to the accumulated contributions and to the two ternary sums; everything else keeps its contents. The lists of stored pieces are found by running the body. -/
noncomputable def kernelRun0_B (c : Dev nD) (i : grid0.Coords) (arg1 : Memref sig .tc .vmem S4096x1 .i32) (harg1 : arg1.IsWhole) (arg2 : Memref sig .tc .vmem S4096x1 .i32) (harg2 : arg2.IsWhole) (arg3 : Memref sig .tc .vmem S4096x1 .i32) (harg3 : arg3.IsWhole) (arg4 : Memref sig .tc .vmem S4096x1 .i32) (harg4 : arg4.IsWhole) (arg5 : Memref sig .tc .vmem S8x32 .f32) (harg5 : arg5.IsWhole) (arg6 : Memref sig .tc .vmem S49x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x16 .f32) (harg10 : arg10.IsWhole) (arg11 : Memref sig .tc .vmem S4x256x512 .f32) (harg11 : arg11.IsWhole) (arg12 : Memref sig .tc .vmem S4x1x512 .f32) (harg12 : arg12.IsWhole) (arg13 : Memref sig .tc .vmem S4x512x256 .f32) (harg13 : arg13.IsWhole) (arg14 : Memref sig .tc .vmem S16x256 .f32) (harg14 : arg14.IsWhole) (arg15 : Memref sig .tc .vmem S256x64 .f32) (harg15 : arg15.IsWhole) (arg16 : Memref sig .tc .vmem S1x64 .f32) (harg16 : arg16.IsWhole) (arg17 : Memref sig .tc .vmem S64x8 .f32) (harg17 : arg17.IsWhole) (arg18 : Memref sig .tc .vmem S1x8 .f32) (harg18 : arg18.IsWhole) (arg19 : Memref sig .tc .vmem S4096x8 .f32) (harg19 : arg19.IsWhole) (arg20 : Memref sig .tc .vmem S4096x16 .f32) (harg20 : arg20.IsWhole) (arg21 : Memref sig .tc .vmem S1x1 .f32) (harg21 : arg21.IsWhole) (arg22 : Memref sig .tc .vmem S4096x256 .f32) (harg22 : arg22.IsWhole) (arg23 : Memref sig .tc .vmem S4096x16 .f32) (harg23 : arg23.IsWhole) (arg24 : Memref sig .tc .vmem S4096x256 .f32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x1 .f32) (harg27 : arg27.IsWhole) (hc0 : ¬cond0_0 i) (hc1 : ¬cond0_1 i) (hc2 : cond0_2 i) (hc3 : ¬cond0_3 i)
    (x0 : Vec F S4096x1 .i32) (x1 : Vec F S4096x1 .i32) (x2 : Vec F S4096x1 .i32) (x3 : Vec F S4096x1 .i32) (x4 : Vec F S8x32 .f32) (x5 : Vec F S49x256 .f32) (x6 : Vec F S1x256 .f32) (x7 : Vec F S256x256 .f32) (x8 : Vec F S1x256 .f32) (x9 : Vec F S256x16 .f32) (x10 : Vec F S4x256x512 .f32) (x11 : Vec F S4x1x512 .f32) (x12 : Vec F S4x512x256 .f32) (x13 : Vec F S16x256 .f32) (x14 : Vec F S256x64 .f32) (x15 : Vec F S1x64 .f32) (x16 : Vec F S64x8 .f32) (x17 : Vec F S1x8 .f32) (xs0 : Vec F S4096x256 .f32) (xs1 : Vec F S4096x16 .f32) (xs2 : Vec F S4096x256 .f32) (xs4 : Vec F S1x1 .f32) (xs5 : Vec F S1x1 .f32) :
    Σ' (LS2 : List (View.Piece (Elt F) S4096x256 .f32)), Σ' (LS4 : List (View.Piece (Elt F) S1x1 .f32)), { LS5 : List (View.Piece (Elt F) S1x1 .f32) //
      ∀ (E : Set ℕ) (K : PUnit → sProp 𝕄) (y18 : Vec F S4096x8 .f32) (y19 : Vec F S4096x16 .f32) (y20 : Vec F S1x1 .f32) (xs3 : Vec F S1x1 .f32),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare y18 ∗ owns (c : Thread nD τ) arg20 fullShare y19 ∗ owns (c : Thread nD τ) arg21 fullShare y20 ∗ owns (c : Thread nD τ) arg22 fullShare xs0 ∗ owns (c : Thread nD τ) arg23 fullShare xs1 ∗ owns (c : Thread nD τ) arg24 fullShare xs2 ∗ owns (c : Thread nD τ) arg25 fullShare xs3 ∗ owns (c : Thread nD τ) arg26 fullShare xs4 ∗ owns (c : Thread nD τ) arg27 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare y18 ∗ owns (c : Thread nD τ) arg20 fullShare y19 ∗ owns (c : Thread nD τ) arg21 fullShare y20 ∗ owns (c : Thread nD τ) arg22 fullShare xs0 ∗ owns (c : Thread nD τ) arg23 fullShare xs1 ∗ (∃ f, arg24.view.loc (c : Thread nD τ) ↦[arg24.view.set]{fullShare} arg24.view.writes (Elt F) f LS2) ∗ owns (c : Thread nD τ) arg25 fullShare xs3 ∗ (∃ f, arg26.view.loc (c : Thread nD τ) ↦[arg26.view.set]{fullShare} arg26.view.writes (Elt F) f LS4) ∗ (∃ f, arg27.view.loc (c : Thread nD τ) ↦[arg27.view.set]{fullShare} arg27.view.writes (Elt F) f LS5)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, fun E K y18 y19 y20 xs3 => ?run⟩
  case run =>
    simp only [cc0__fused_eq_skeleton]; unfold cc0__fused_skel
    simp only [k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hfs0; obtain rfl := harg23.eq_unread hfs1; obtain rfl := harg24.eq_unread hfs2; obtain rfl := harg25.eq_unread hfs3; obtain rfl := harg26.eq_unread hfs4; obtain rfl := harg27.eq_unread hfs5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [HS0]
    · iexists _; isplitr; · ipureintro; exact harg22.read_unread _
      iexact HS0
    isplitl [HS1]
    · iexists _; isplitr; · ipureintro; exact harg23.read_unread _
      iexact HS1
    isplitl [HS2]; · iexists _; iexact HS2
    isplitl [HS3]
    · iexists _; isplitr; · ipureintro; exact harg25.read_unread _
      iexact HS3
    isplitl [HS4]; · iexists _; iexact HS4
    iexists _; iexact HS5

end Cert.KernelIdeal.Hand

end
-- ==== Proof.RunC.lean ====
module

public import proofs.«01_k».proof.Proof.RunBase

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- At the last point the body adds to the accumulated contributions and stores the action result and the auxiliary loss; everything else keeps its contents. The lists of stored pieces are found by running the body. -/
noncomputable def kernelRun0_C (c : Dev nD) (i : grid0.Coords) (arg1 : Memref sig .tc .vmem S4096x1 .i32) (harg1 : arg1.IsWhole) (arg2 : Memref sig .tc .vmem S4096x1 .i32) (harg2 : arg2.IsWhole) (arg3 : Memref sig .tc .vmem S4096x1 .i32) (harg3 : arg3.IsWhole) (arg4 : Memref sig .tc .vmem S4096x1 .i32) (harg4 : arg4.IsWhole) (arg5 : Memref sig .tc .vmem S8x32 .f32) (harg5 : arg5.IsWhole) (arg6 : Memref sig .tc .vmem S49x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x16 .f32) (harg10 : arg10.IsWhole) (arg11 : Memref sig .tc .vmem S4x256x512 .f32) (harg11 : arg11.IsWhole) (arg12 : Memref sig .tc .vmem S4x1x512 .f32) (harg12 : arg12.IsWhole) (arg13 : Memref sig .tc .vmem S4x512x256 .f32) (harg13 : arg13.IsWhole) (arg14 : Memref sig .tc .vmem S16x256 .f32) (harg14 : arg14.IsWhole) (arg15 : Memref sig .tc .vmem S256x64 .f32) (harg15 : arg15.IsWhole) (arg16 : Memref sig .tc .vmem S1x64 .f32) (harg16 : arg16.IsWhole) (arg17 : Memref sig .tc .vmem S64x8 .f32) (harg17 : arg17.IsWhole) (arg18 : Memref sig .tc .vmem S1x8 .f32) (harg18 : arg18.IsWhole) (arg19 : Memref sig .tc .vmem S4096x8 .f32) (harg19 : arg19.IsWhole) (arg20 : Memref sig .tc .vmem S4096x16 .f32) (harg20 : arg20.IsWhole) (arg21 : Memref sig .tc .vmem S1x1 .f32) (harg21 : arg21.IsWhole) (arg22 : Memref sig .tc .vmem S4096x256 .f32) (harg22 : arg22.IsWhole) (arg23 : Memref sig .tc .vmem S4096x16 .f32) (harg23 : arg23.IsWhole) (arg24 : Memref sig .tc .vmem S4096x256 .f32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x1 .f32) (harg27 : arg27.IsWhole) (hc0 : ¬cond0_0 i) (hc1 : ¬cond0_1 i) (hc2 : cond0_2 i) (hc3 : cond0_3 i)
    (x0 : Vec F S4096x1 .i32) (x1 : Vec F S4096x1 .i32) (x2 : Vec F S4096x1 .i32) (x3 : Vec F S4096x1 .i32) (x4 : Vec F S8x32 .f32) (x5 : Vec F S49x256 .f32) (x6 : Vec F S1x256 .f32) (x7 : Vec F S256x256 .f32) (x8 : Vec F S1x256 .f32) (x9 : Vec F S256x16 .f32) (x10 : Vec F S4x256x512 .f32) (x11 : Vec F S4x1x512 .f32) (x12 : Vec F S4x512x256 .f32) (x13 : Vec F S16x256 .f32) (x14 : Vec F S256x64 .f32) (x15 : Vec F S1x64 .f32) (x16 : Vec F S64x8 .f32) (x17 : Vec F S1x8 .f32) (xs0 : Vec F S4096x256 .f32) (xs1 : Vec F S4096x16 .f32) (xs2 : Vec F S4096x256 .f32) (xs3 : Vec F S1x1 .f32) (xs4 : Vec F S1x1 .f32) (xs5 : Vec F S1x1 .f32) :
    Σ' (LO18 : List (View.Piece (Elt F) S4096x8 .f32)), Σ' (LO20 : List (View.Piece (Elt F) S1x1 .f32)), Σ' (LS2 : List (View.Piece (Elt F) S4096x256 .f32)), Σ' (LS4 : List (View.Piece (Elt F) S1x1 .f32)), { LS5 : List (View.Piece (Elt F) S1x1 .f32) //
      ∀ (E : Set ℕ) (K : PUnit → sProp 𝕄) (y19 : Vec F S4096x16 .f32),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ owns (c : Thread nD τ) arg20 fullShare y19 ∗ (∃ d, owns (c : Thread nD τ) arg21 fullShare d) ∗ owns (c : Thread nD τ) arg22 fullShare xs0 ∗ owns (c : Thread nD τ) arg23 fullShare xs1 ∗ owns (c : Thread nD τ) arg24 fullShare xs2 ∗ owns (c : Thread nD τ) arg25 fullShare xs3 ∗ owns (c : Thread nD τ) arg26 fullShare xs4 ∗ owns (c : Thread nD τ) arg27 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f LO18) ∗ owns (c : Thread nD τ) arg20 fullShare y19 ∗ (∃ f, arg21.view.loc (c : Thread nD τ) ↦[arg21.view.set]{fullShare} arg21.view.writes (Elt F) f LO20) ∗ owns (c : Thread nD τ) arg22 fullShare xs0 ∗ owns (c : Thread nD τ) arg23 fullShare xs1 ∗ (∃ f, arg24.view.loc (c : Thread nD τ) ↦[arg24.view.set]{fullShare} arg24.view.writes (Elt F) f LS2) ∗ owns (c : Thread nD τ) arg25 fullShare xs3 ∗ (∃ f, arg26.view.loc (c : Thread nD τ) ↦[arg26.view.set]{fullShare} arg26.view.writes (Elt F) f LS4) ∗ (∃ f, arg27.view.loc (c : Thread nD τ) ↦[arg27.view.set]{fullShare} arg27.view.writes (Elt F) f LS5)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, fun E K y19 => ?run⟩
  case run =>
    simp only [cc0__fused_eq_skeleton]; unfold cc0__fused_skel
    simp only [k0_part6_eq_skeleton, k0_part7_eq_skeleton, k0_part8_eq_skeleton, k0_part9_eq_skeleton, k0_part10_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%df18, %f18, -, H18⟩, ⟨%f19, %hf19, H19⟩, ⟨%df20, %f20, -, H20⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg20.eq_unread hf19; obtain rfl := harg22.eq_unread hfs0; obtain rfl := harg23.eq_unread hfs1; obtain rfl := harg24.eq_unread hfs2; obtain rfl := harg25.eq_unread hfs3; obtain rfl := harg26.eq_unread hfs4; obtain rfl := harg27.eq_unread hfs5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]
    · iexists _; isplitr; · ipureintro; exact harg20.read_unread _
      iexact H19
    isplitl [H20]; · iexists _; iexact H20
    isplitl [HS0]
    · iexists _; isplitr; · ipureintro; exact harg22.read_unread _
      iexact HS0
    isplitl [HS1]
    · iexists _; isplitr; · ipureintro; exact harg23.read_unread _
      iexact HS1
    isplitl [HS2]; · iexists _; iexact HS2
    isplitl [HS3]
    · iexists _; isplitr; · ipureintro; exact harg25.read_unread _
      iexact HS3
    isplitl [HS4]; · iexists _; iexact HS4
    iexists _; iexact HS5

end Cert.KernelIdeal.Hand

end
-- ==== Proof.RunData.lean ====
module

public import proofs.«01_k».proof.Proof.RunA
public import proofs.«01_k».proof.Proof.RunB
public import proofs.«01_k».proof.Proof.RunC
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the six scratch buffers hold after a point. -/
abbrev St (F : FTy → Type) [FloatOps F] : Type := Vec F S4096x256 .f32 × Vec F S4096x16 .f32 × Vec F S4096x256 .f32 × Vec F S1x1 .f32 × Vec F S1x1 .f32 × Vec F S1x1 .f32

/-- The body run at the first point. -/
def rA (c : Dev nD) (t : Fin cfg0.N) (h : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) (cA0 t h) (cA1 t h) (cA2 t h) (cA3 t h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
/-- The body run at a middle point, over what the point before left. -/
def rB (c : Dev nD) (t : Fin cfg0.N) (h : t.val ≠ 0) (h3 : t.val ≠ 3) (s : St F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) (cB0 t h) (cB1 t h) (cB2 t h) (cB3 t h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) s.1 s.2.1 s.2.2.1 s.2.2.2.2.1 s.2.2.2.2.2
/-- The body run at the last point, over what the point before left. -/
def rC (c : Dev nD) (t : Fin cfg0.N) (h : t.val ≠ 0) (h3 : t.val = 3) (s : St F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) (cB0 t h) (cB1 t h) (cB2 t h) (cC3 t h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) s.1 s.2.1 s.2.2.1 s.2.2.2.1 s.2.2.2.2.1 s.2.2.2.2.2

/-- Every entry of result window 19 is stored at the first point. -/
theorem covA_O19 (c : Dev nD) (t : Fin cfg0.N) (h : t.val = 0) (y : S4096x16.Idx) : ∃ pc ∈ (rA m c t h).1, y ∈ pc.1.set :=
  View.cover_of_tiledL _ S4096x16.size (by sl_kernel_rfl) y
/-- What the first point leaves in result window 19. -/
def A_O19 (c : Dev nD) (t : Fin cfg0.N) (h : t.val = 0) : Vec F S4096x16 .f32 :=
  (ms0_19 t).view.read (Elt F) ((ms0_19 t).view.writes (Elt F) (ms0_19 t).view.junk (rA m c t h).1)

/-- Every entry of scratch 0 is stored at the first point. -/
theorem covA_S0 (c : Dev nD) (t : Fin cfg0.N) (h : t.val = 0) (y : S4096x256.Idx) : ∃ pc ∈ (rA m c t h).2.1, y ∈ pc.1.set :=
  View.cover_of_tiledL _ S4096x256.size (by sl_kernel_rfl) y
/-- What the first point leaves in scratch 0. -/
def A_S0 (c : Dev nD) (t : Fin cfg0.N) (h : t.val = 0) : Vec F S4096x256 .f32 :=
  VS0_0.read (Elt F) (VS0_0.writes (Elt F) VS0_0.junk (rA m c t h).2.1)

/-- Every entry of scratch 1 is stored at the first point. -/
theorem covA_S1 (c : Dev nD) (t : Fin cfg0.N) (h : t.val = 0) (y : S4096x16.Idx) : ∃ pc ∈ (rA m c t h).2.2.1, y ∈ pc.1.set :=
  View.cover_of_tiledL _ S4096x16.size (by sl_kernel_rfl) y
/-- What the first point leaves in scratch 1. -/
def A_S1 (c : Dev nD) (t : Fin cfg0.N) (h : t.val = 0) : Vec F S4096x16 .f32 :=
  VS0_1.read (Elt F) (VS0_1.writes (Elt F) VS0_1.junk (rA m c t h).2.2.1)

/-- Every entry of scratch 2 is stored at the first point. -/
theorem covA_S2 (c : Dev nD) (t : Fin cfg0.N) (h : t.val = 0) (y : S4096x256.Idx) : ∃ pc ∈ (rA m c t h).2.2.2.1, y ∈ pc.1.set :=
  View.cover_of_tiledL _ S4096x256.size (by sl_kernel_rfl) y
/-- What the first point leaves in scratch 2. -/
def A_S2 (c : Dev nD) (t : Fin cfg0.N) (h : t.val = 0) : Vec F S4096x256 .f32 :=
  VS0_2.read (Elt F) (VS0_2.writes (Elt F) VS0_2.junk (rA m c t h).2.2.2.1)

/-- Every entry of scratch 3 is stored at the first point. -/
theorem covA_S3 (c : Dev nD) (t : Fin cfg0.N) (h : t.val = 0) (y : S1x1.Idx) : ∃ pc ∈ (rA m c t h).2.2.2.2.1, y ∈ pc.1.set :=
  View.cover_of_tiledL _ S1x1.size (by sl_kernel_rfl) y
/-- What the first point leaves in scratch 3. -/
def A_S3 (c : Dev nD) (t : Fin cfg0.N) (h : t.val = 0) : Vec F S1x1 .f32 :=
  VS0_3.read (Elt F) (VS0_3.writes (Elt F) VS0_3.junk (rA m c t h).2.2.2.2.1)

/-- Every entry of scratch 4 is stored at the first point. -/
theorem covA_S4 (c : Dev nD) (t : Fin cfg0.N) (h : t.val = 0) (y : S1x1.Idx) : ∃ pc ∈ (rA m c t h).2.2.2.2.2.1, y ∈ pc.1.set :=
  View.cover_of_tiledL _ S1x1.size (by sl_kernel_rfl) y
/-- What the first point leaves in scratch 4. -/
def A_S4 (c : Dev nD) (t : Fin cfg0.N) (h : t.val = 0) : Vec F S1x1 .f32 :=
  VS0_4.read (Elt F) (VS0_4.writes (Elt F) VS0_4.junk (rA m c t h).2.2.2.2.2.1)

/-- Every entry of scratch 5 is stored at the first point. -/
theorem covA_S5 (c : Dev nD) (t : Fin cfg0.N) (h : t.val = 0) (y : S1x1.Idx) : ∃ pc ∈ (rA m c t h).2.2.2.2.2.2.1, y ∈ pc.1.set :=
  View.cover_of_tiledL _ S1x1.size (by sl_kernel_rfl) y
/-- What the first point leaves in scratch 5. -/
def A_S5 (c : Dev nD) (t : Fin cfg0.N) (h : t.val = 0) : Vec F S1x1 .f32 :=
  VS0_5.read (Elt F) (VS0_5.writes (Elt F) VS0_5.junk (rA m c t h).2.2.2.2.2.2.1)

/-- Every entry of scratch 2 is stored at a middle point. -/
theorem covB_S2 (c : Dev nD) (t : Fin cfg0.N) (h : t.val ≠ 0) (h3 : t.val ≠ 3) (s : St F) (y : S4096x256.Idx) : ∃ pc ∈ (rB m c t h h3 s).1, y ∈ pc.1.set :=
  View.cover_of_tiledL _ S4096x256.size (by sl_kernel_rfl) y
/-- What a middle point leaves in scratch 2. -/
def B_S2 (c : Dev nD) (t : Fin cfg0.N) (h : t.val ≠ 0) (h3 : t.val ≠ 3) (s : St F) : Vec F S4096x256 .f32 :=
  VS0_2.read (Elt F) (VS0_2.writes (Elt F) VS0_2.junk (rB m c t h h3 s).1)

/-- Every entry of scratch 4 is stored at a middle point. -/
theorem covB_S4 (c : Dev nD) (t : Fin cfg0.N) (h : t.val ≠ 0) (h3 : t.val ≠ 3) (s : St F) (y : S1x1.Idx) : ∃ pc ∈ (rB m c t h h3 s).2.1, y ∈ pc.1.set :=
  View.cover_of_tiledL _ S1x1.size (by sl_kernel_rfl) y
/-- What a middle point leaves in scratch 4. -/
def B_S4 (c : Dev nD) (t : Fin cfg0.N) (h : t.val ≠ 0) (h3 : t.val ≠ 3) (s : St F) : Vec F S1x1 .f32 :=
  VS0_4.read (Elt F) (VS0_4.writes (Elt F) VS0_4.junk (rB m c t h h3 s).2.1)

/-- Every entry of scratch 5 is stored at a middle point. -/
theorem covB_S5 (c : Dev nD) (t : Fin cfg0.N) (h : t.val ≠ 0) (h3 : t.val ≠ 3) (s : St F) (y : S1x1.Idx) : ∃ pc ∈ (rB m c t h h3 s).2.2.1, y ∈ pc.1.set :=
  View.cover_of_tiledL _ S1x1.size (by sl_kernel_rfl) y
/-- What a middle point leaves in scratch 5. -/
def B_S5 (c : Dev nD) (t : Fin cfg0.N) (h : t.val ≠ 0) (h3 : t.val ≠ 3) (s : St F) : Vec F S1x1 .f32 :=
  VS0_5.read (Elt F) (VS0_5.writes (Elt F) VS0_5.junk (rB m c t h h3 s).2.2.1)

/-- Every entry of result window 18 is stored at the last point. -/
theorem covC_O18 (c : Dev nD) (t : Fin cfg0.N) (h : t.val ≠ 0) (h3 : t.val = 3) (s : St F) (y : S4096x8.Idx) : ∃ pc ∈ (rC m c t h h3 s).1, y ∈ pc.1.set :=
  View.cover_of_tiledL _ S4096x8.size (by sl_kernel_rfl) y
/-- What the last point leaves in result window 18. -/
def C_O18 (c : Dev nD) (t : Fin cfg0.N) (h : t.val ≠ 0) (h3 : t.val = 3) (s : St F) : Vec F S4096x8 .f32 :=
  (ms0_18 t).view.read (Elt F) ((ms0_18 t).view.writes (Elt F) (ms0_18 t).view.junk (rC m c t h h3 s).1)

/-- Every entry of result window 20 is stored at the last point. -/
theorem covC_O20 (c : Dev nD) (t : Fin cfg0.N) (h : t.val ≠ 0) (h3 : t.val = 3) (s : St F) (y : S1x1.Idx) : ∃ pc ∈ (rC m c t h h3 s).2.1, y ∈ pc.1.set :=
  View.cover_of_tiledL _ S1x1.size (by sl_kernel_rfl) y
/-- What the last point leaves in result window 20. -/
def C_O20 (c : Dev nD) (t : Fin cfg0.N) (h : t.val ≠ 0) (h3 : t.val = 3) (s : St F) : Vec F S1x1 .f32 :=
  (ms0_20 t).view.read (Elt F) ((ms0_20 t).view.writes (Elt F) (ms0_20 t).view.junk (rC m c t h h3 s).2.1)

/-- Every entry of scratch 2 is stored at the last point. -/
theorem covC_S2 (c : Dev nD) (t : Fin cfg0.N) (h : t.val ≠ 0) (h3 : t.val = 3) (s : St F) (y : S4096x256.Idx) : ∃ pc ∈ (rC m c t h h3 s).2.2.1, y ∈ pc.1.set :=
  View.cover_of_tiledL _ S4096x256.size (by sl_kernel_rfl) y
/-- What the last point leaves in scratch 2. -/
def C_S2 (c : Dev nD) (t : Fin cfg0.N) (h : t.val ≠ 0) (h3 : t.val = 3) (s : St F) : Vec F S4096x256 .f32 :=
  VS0_2.read (Elt F) (VS0_2.writes (Elt F) VS0_2.junk (rC m c t h h3 s).2.2.1)

/-- Every entry of scratch 4 is stored at the last point. -/
theorem covC_S4 (c : Dev nD) (t : Fin cfg0.N) (h : t.val ≠ 0) (h3 : t.val = 3) (s : St F) (y : S1x1.Idx) : ∃ pc ∈ (rC m c t h h3 s).2.2.2.1, y ∈ pc.1.set :=
  View.cover_of_tiledL _ S1x1.size (by sl_kernel_rfl) y
/-- What the last point leaves in scratch 4. -/
def C_S4 (c : Dev nD) (t : Fin cfg0.N) (h : t.val ≠ 0) (h3 : t.val = 3) (s : St F) : Vec F S1x1 .f32 :=
  VS0_4.read (Elt F) (VS0_4.writes (Elt F) VS0_4.junk (rC m c t h h3 s).2.2.2.1)

/-- Every entry of scratch 5 is stored at the last point. -/
theorem covC_S5 (c : Dev nD) (t : Fin cfg0.N) (h : t.val ≠ 0) (h3 : t.val = 3) (s : St F) (y : S1x1.Idx) : ∃ pc ∈ (rC m c t h h3 s).2.2.2.2.1, y ∈ pc.1.set :=
  View.cover_of_tiledL _ S1x1.size (by sl_kernel_rfl) y
/-- What the last point leaves in scratch 5. -/
def C_S5 (c : Dev nD) (t : Fin cfg0.N) (h : t.val ≠ 0) (h3 : t.val = 3) (s : St F) : Vec F S1x1 .f32 :=
  VS0_5.read (Elt F) (VS0_5.writes (Elt F) VS0_5.junk (rC m c t h h3 s).2.2.2.2.1)

/-- The scratch after the first point. -/
def stA (c : Dev nD) (t : Fin cfg0.N) (h : t.val = 0) : St F :=
  (A_S0 m c t h, A_S1 m c t h, A_S2 m c t h, A_S3 m c t h, A_S4 m c t h, A_S5 m c t h)
/-- The scratch after a middle point. -/
def stB (c : Dev nD) (t : Fin cfg0.N) (h : t.val ≠ 0) (h3 : t.val ≠ 3) (s : St F) : St F :=
  (s.1, s.2.1, B_S2 m c t h h3 s, s.2.2.2.1, B_S4 m c t h h3 s, B_S5 m c t h h3 s)
/-- The scratch after the last point. -/
def stC (c : Dev nD) (t : Fin cfg0.N) (h : t.val ≠ 0) (h3 : t.val = 3) (s : St F) : St F :=
  (s.1, s.2.1, C_S2 m c t h h3 s, s.2.2.2.1, C_S4 m c t h h3 s, C_S5 m c t h h3 s)

/-- The scratch after point `n`. -/
def outsAt (c : Dev nD) : (n : ℕ) → n < cfg0.N → St F
  | 0, hn => stA m c ⟨0, hn⟩ rfl
  | n + 1, hn =>
    if h3 : n + 1 = 3 then stC m c ⟨n + 1, hn⟩ (Nat.succ_ne_zero n) h3 (outsAt c n (Nat.lt_of_succ_lt hn))
    else stB m c ⟨n + 1, hn⟩ (Nat.succ_ne_zero n) h3 (outsAt c n (Nat.lt_of_succ_lt hn))

/-- The point before one that is not the first is a point. -/
theorem pred_lt (t : Fin cfg0.N) : t.val - 1 < cfg0.N := Nat.lt_of_le_of_lt (Nat.sub_le _ _) t.isLt

/-- What the scratch holds after the first point. -/
theorem outsAt_A (c : Dev nD) (t : Fin cfg0.N) (h : t.val = 0) : outsAt m c t.val t.isLt = stA m c t h := by
  obtain ⟨n, hn⟩ := t
  cases n with
  | zero => exact rfl
  | succ n => exact absurd h (Nat.succ_ne_zero n)

/-- What the scratch holds after a middle point, from what it held before. -/
theorem outsAt_B (c : Dev nD) (t : Fin cfg0.N) (h : t.val ≠ 0) (h3 : t.val ≠ 3) :
    outsAt m c t.val t.isLt = stB m c t h h3 (outsAt m c (t.val - 1) (pred_lt t)) := by
  obtain ⟨n, hn⟩ := t
  cases n with
  | zero => exact absurd rfl h
  | succ n => exact dif_neg h3

/-- What the scratch holds after the last point, from what it held before. -/
theorem outsAt_C (c : Dev nD) (t : Fin cfg0.N) (h : t.val ≠ 0) (h3 : t.val = 3) :
    outsAt m c t.val t.isLt = stC m c t h h3 (outsAt m c (t.val - 1) (pred_lt t)) := by
  obtain ⟨n, hn⟩ := t
  cases n with
  | zero => exact absurd rfl h
  | succ n => exact dif_pos h3

/-- The routing probabilities the first point stores. -/
def P19 (c : Dev nD) : Vec F S4096x16 .f32 := A_O19 m c t0_0 rfl
/-- The last point is not the first. -/
theorem t03_ne : t0_3.val ≠ 0 := by decide
/-- The action result the last point stores. -/
def P18 (c : Dev nD) : Vec F S4096x8 .f32 := C_O18 m c t0_3 t03_ne rfl (outsAt m c (t0_3.val - 1) (pred_lt t0_3))
/-- The auxiliary loss the last point stores. -/
def P20 (c : Dev nD) : Vec F S1x1 .f32 := C_O20 m c t0_3 t03_ne rfl (outsAt m c (t0_3.val - 1) (pred_lt t0_3))
/-- The probabilities are those the first point writes. -/
theorem P19_eq (c : Dev nD) (t : Fin cfg0.N) (h : t.val = 0) : P19 m c = A_O19 m c t h := by
  have ht : t = t0_0 := Fin.ext h
  subst ht; rfl
/-- The result is the one the last point writes. -/
theorem P18_eq (c : Dev nD) (t : Fin cfg0.N) (h : t.val ≠ 0) (h3 : t.val = 3) :
    P18 m c = C_O18 m c t h h3 (outsAt m c (t.val - 1) (pred_lt t)) := by
  have ht : t = t0_3 := Fin.ext h3
  subst ht; rfl
/-- The auxiliary loss is the one the last point writes. -/
theorem P20_eq (c : Dev nD) (t : Fin cfg0.N) (h : t.val ≠ 0) (h3 : t.val = 3) :
    P20 m c = C_O20 m c t h h3 (outsAt m c (t.val - 1) (pred_lt t)) := by
  have ht : t = t0_3 := Fin.ext h3
  subst ht; rfl

/-- The invariant before point `n`: at the first the scratch at anything, afterwards each scratch at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).1) ∗ owns (c : Thread nD τ) scM0_1 fullShare ((outsAt m c n hn).2.1) ∗ owns (c : Thread nD τ) scM0_2 fullShare ((outsAt m c n hn).2.2.1) ∗ owns (c : Thread nD τ) scM0_3 fullShare ((outsAt m c n hn).2.2.2.1) ∗ owns (c : Thread nD τ) scM0_4 fullShare ((outsAt m c n hn).2.2.2.2.1) ∗ owns (c : Thread nD τ) scM0_5 fullShare ((outsAt m c n hn).2.2.2.2.2)) ∗ (∃ r, prngReg c r))

/-- Before the first point the scratch may hold anything. -/
theorem PhiS_zero (c : Dev nD) (n : ℕ) (h : n ≤ cfg0.N) (hz : n = 0) : PhiS m c n h = Pipeline.ΦA spec0 c := by
  subst hz; rfl

/-- After a point the scratch holds what that point left. -/
theorem PhiS_succ (c : Dev nD) (n : ℕ) (hn : n < cfg0.N) :
    PhiS m c (n + 1) hn = iprop(iprop(owns (c : Thread nD τ) scM0_0 fullShare ((outsAt m c n hn).1) ∗ owns (c : Thread nD τ) scM0_1 fullShare ((outsAt m c n hn).2.1) ∗ owns (c : Thread nD τ) scM0_2 fullShare ((outsAt m c n hn).2.2.1) ∗ owns (c : Thread nD τ) scM0_3 fullShare ((outsAt m c n hn).2.2.2.1) ∗ owns (c : Thread nD τ) scM0_4 fullShare ((outsAt m c n hn).2.2.2.2.1) ∗ owns (c : Thread nD τ) scM0_5 fullShare ((outsAt m c n hn).2.2.2.2.2)) ∗ (∃ r, prngReg c r)) := rfl

/-- Before a later point the scratch holds what the point before left. -/
theorem PhiS_pos (c : Dev nD) (n : ℕ) (h : n ≤ cfg0.N) (hz : n ≠ 0) :
    PhiS m c n h = iprop(iprop(owns (c : Thread nD τ) scM0_0 fullShare ((outsAt m c (n - 1) (by omega)).1) ∗ owns (c : Thread nD τ) scM0_1 fullShare ((outsAt m c (n - 1) (by omega)).2.1) ∗ owns (c : Thread nD τ) scM0_2 fullShare ((outsAt m c (n - 1) (by omega)).2.2.1) ∗ owns (c : Thread nD τ) scM0_3 fullShare ((outsAt m c (n - 1) (by omega)).2.2.2.1) ∗ owns (c : Thread nD τ) scM0_4 fullShare ((outsAt m c (n - 1) (by omega)).2.2.2.2.1) ∗ owns (c : Thread nD τ) scM0_5 fullShare ((outsAt m c (n - 1) (by omega)).2.2.2.2.2)) ∗ (∃ r, prngReg c r)) := by
  cases n with
  | zero => exact absurd rfl hz
  | succ n => rfl

/-- The proof data of the pipeline on core `c`: the inputs at their blocks, the three results at what is stored in them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => P18 m c
    | ⟨19, _⟩ => P19 m c
    | ⟨20, _⟩ => P20 m c
    | ⟨_ + 21, h⟩ => absurd h (Nat.not_lt.2 (Nat.le_add_left _ _))
  Φ t := PhiS m c t.val (Nat.le_of_lt_succ t.isLt)
  q _ := fullShare
  owed _ := 0

/-- A window's array is entered at its contents. -/
theorem A_eq (c : Dev nD) (w : Fin cfg0.W) : (dats m 0 c).A w = V m c (Pipeline.arrRef spec0 w) := by
  dsimp only [dats]

/-- The scratch before a point, by its number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Input window 0 still holds its block after a point. -/
theorem after0_0 (c : Dev nD) (t : Fin cfg0.N) : (dats m 0 c).after 0 t = iblk m c 0 t := by dsimp only [dats]
/-- Input window 1 still holds its block after a point. -/
theorem after0_1 (c : Dev nD) (t : Fin cfg0.N) : (dats m 0 c).after 1 t = iblk m c 1 t := by dsimp only [dats]
/-- Input window 2 still holds its block after a point. -/
theorem after0_2 (c : Dev nD) (t : Fin cfg0.N) : (dats m 0 c).after 2 t = iblk m c 2 t := by dsimp only [dats]
/-- Input window 3 still holds its block after a point. -/
theorem after0_3 (c : Dev nD) (t : Fin cfg0.N) : (dats m 0 c).after 3 t = iblk m c 3 t := by dsimp only [dats]
/-- Input window 4 still holds its block after a point. -/
theorem after0_4 (c : Dev nD) (t : Fin cfg0.N) : (dats m 0 c).after 4 t = iblk m c 4 t := by dsimp only [dats]
/-- Input window 5 still holds its block after a point. -/
theorem after0_5 (c : Dev nD) (t : Fin cfg0.N) : (dats m 0 c).after 5 t = iblk m c 5 t := by dsimp only [dats]
/-- Input window 6 still holds its block after a point. -/
theorem after0_6 (c : Dev nD) (t : Fin cfg0.N) : (dats m 0 c).after 6 t = iblk m c 6 t := by dsimp only [dats]
/-- Input window 7 still holds its block after a point. -/
theorem after0_7 (c : Dev nD) (t : Fin cfg0.N) : (dats m 0 c).after 7 t = iblk m c 7 t := by dsimp only [dats]
/-- Input window 8 still holds its block after a point. -/
theorem after0_8 (c : Dev nD) (t : Fin cfg0.N) : (dats m 0 c).after 8 t = iblk m c 8 t := by dsimp only [dats]
/-- Input window 9 still holds its block after a point. -/
theorem after0_9 (c : Dev nD) (t : Fin cfg0.N) : (dats m 0 c).after 9 t = iblk m c 9 t := by dsimp only [dats]
/-- Input window 10 still holds its block after a point. -/
theorem after0_10 (c : Dev nD) (t : Fin cfg0.N) : (dats m 0 c).after 10 t = iblk m c 10 t := by dsimp only [dats]
/-- Input window 11 still holds its block after a point. -/
theorem after0_11 (c : Dev nD) (t : Fin cfg0.N) : (dats m 0 c).after 11 t = iblk m c 11 t := by dsimp only [dats]
/-- Input window 12 still holds its block after a point. -/
theorem after0_12 (c : Dev nD) (t : Fin cfg0.N) : (dats m 0 c).after 12 t = iblk m c 12 t := by dsimp only [dats]
/-- Input window 13 still holds its block after a point. -/
theorem after0_13 (c : Dev nD) (t : Fin cfg0.N) : (dats m 0 c).after 13 t = iblk m c 13 t := by dsimp only [dats]
/-- Input window 14 still holds its block after a point. -/
theorem after0_14 (c : Dev nD) (t : Fin cfg0.N) : (dats m 0 c).after 14 t = iblk m c 14 t := by dsimp only [dats]
/-- Input window 15 still holds its block after a point. -/
theorem after0_15 (c : Dev nD) (t : Fin cfg0.N) : (dats m 0 c).after 15 t = iblk m c 15 t := by dsimp only [dats]
/-- Input window 16 still holds its block after a point. -/
theorem after0_16 (c : Dev nD) (t : Fin cfg0.N) : (dats m 0 c).after 16 t = iblk m c 16 t := by dsimp only [dats]
/-- Input window 17 still holds its block after a point. -/
theorem after0_17 (c : Dev nD) (t : Fin cfg0.N) : (dats m 0 c).after 17 t = iblk m c 17 t := by dsimp only [dats]
/-- What window 18 holds once it is written. -/
theorem after0_18 (c : Dev nD) (t : Fin cfg0.N) : (dats m 0 c).after 18 t = P18 m c := by dsimp only [dats]
/-- What window 19 holds once it is written. -/
theorem after0_19 (c : Dev nD) (t : Fin cfg0.N) : (dats m 0 c).after 19 t = P19 m c := by dsimp only [dats]
/-- What window 20 holds once it is written. -/
theorem after0_20 (c : Dev nD) (t : Fin cfg0.N) : (dats m 0 c).after 20 t = P20 m c := by dsimp only [dats]
/-- Input window 0 holds its block before a point. -/
theorem before0_0 (c : Dev nD) (t : Fin cfg0.N) (d) : (dats m 0 c).before 0 t d = iblk m c 0 t :=
  before0_0_of m (dats m 0 c) (A_eq m c 0) (after0_0 m c) t d
/-- Input window 1 holds its block before a point. -/
theorem before0_1 (c : Dev nD) (t : Fin cfg0.N) (d) : (dats m 0 c).before 1 t d = iblk m c 1 t :=
  before0_1_of m (dats m 0 c) (A_eq m c 1) (after0_1 m c) t d
/-- Input window 2 holds its block before a point. -/
theorem before0_2 (c : Dev nD) (t : Fin cfg0.N) (d) : (dats m 0 c).before 2 t d = iblk m c 2 t :=
  before0_2_of m (dats m 0 c) (A_eq m c 2) (after0_2 m c) t d
/-- Input window 3 holds its block before a point. -/
theorem before0_3 (c : Dev nD) (t : Fin cfg0.N) (d) : (dats m 0 c).before 3 t d = iblk m c 3 t :=
  before0_3_of m (dats m 0 c) (A_eq m c 3) (after0_3 m c) t d
/-- Input window 4 holds its block before a point. -/
theorem before0_4 (c : Dev nD) (t : Fin cfg0.N) (d) : (dats m 0 c).before 4 t d = iblk m c 4 t :=
  before0_4_of m (dats m 0 c) (A_eq m c 4) (after0_4 m c) t d
/-- Input window 5 holds its block before a point. -/
theorem before0_5 (c : Dev nD) (t : Fin cfg0.N) (d) : (dats m 0 c).before 5 t d = iblk m c 5 t :=
  before0_5_of m (dats m 0 c) (A_eq m c 5) (after0_5 m c) t d
/-- Input window 6 holds its block before a point. -/
theorem before0_6 (c : Dev nD) (t : Fin cfg0.N) (d) : (dats m 0 c).before 6 t d = iblk m c 6 t :=
  before0_6_of m (dats m 0 c) (A_eq m c 6) (after0_6 m c) t d
/-- Input window 7 holds its block before a point. -/
theorem before0_7 (c : Dev nD) (t : Fin cfg0.N) (d) : (dats m 0 c).before 7 t d = iblk m c 7 t :=
  before0_7_of m (dats m 0 c) (A_eq m c 7) (after0_7 m c) t d
/-- Input window 8 holds its block before a point. -/
theorem before0_8 (c : Dev nD) (t : Fin cfg0.N) (d) : (dats m 0 c).before 8 t d = iblk m c 8 t :=
  before0_8_of m (dats m 0 c) (A_eq m c 8) (after0_8 m c) t d
/-- Input window 9 holds its block before a point. -/
theorem before0_9 (c : Dev nD) (t : Fin cfg0.N) (d) : (dats m 0 c).before 9 t d = iblk m c 9 t :=
  before0_9_of m (dats m 0 c) (A_eq m c 9) (after0_9 m c) t d
/-- Input window 10 holds its block before a point. -/
theorem before0_10 (c : Dev nD) (t : Fin cfg0.N) (d) : (dats m 0 c).before 10 t d = iblk m c 10 t :=
  before0_10_of m (dats m 0 c) (A_eq m c 10) (after0_10 m c) t d
/-- Input window 11 holds its block before a point. -/
theorem before0_11 (c : Dev nD) (t : Fin cfg0.N) (d) : (dats m 0 c).before 11 t d = iblk m c 11 t :=
  before0_11_of m (dats m 0 c) (A_eq m c 11) (after0_11 m c) t d
/-- Input window 12 holds its block before a point. -/
theorem before0_12 (c : Dev nD) (t : Fin cfg0.N) (d) : (dats m 0 c).before 12 t d = iblk m c 12 t :=
  before0_12_of m (dats m 0 c) (A_eq m c 12) (after0_12 m c) t d
/-- Input window 13 holds its block before a point. -/
theorem before0_13 (c : Dev nD) (t : Fin cfg0.N) (d) : (dats m 0 c).before 13 t d = iblk m c 13 t :=
  before0_13_of m (dats m 0 c) (A_eq m c 13) (after0_13 m c) t d
/-- Input window 14 holds its block before a point. -/
theorem before0_14 (c : Dev nD) (t : Fin cfg0.N) (d) : (dats m 0 c).before 14 t d = iblk m c 14 t :=
  before0_14_of m (dats m 0 c) (A_eq m c 14) (after0_14 m c) t d
/-- Input window 15 holds its block before a point. -/
theorem before0_15 (c : Dev nD) (t : Fin cfg0.N) (d) : (dats m 0 c).before 15 t d = iblk m c 15 t :=
  before0_15_of m (dats m 0 c) (A_eq m c 15) (after0_15 m c) t d
/-- Input window 16 holds its block before a point. -/
theorem before0_16 (c : Dev nD) (t : Fin cfg0.N) (d) : (dats m 0 c).before 16 t d = iblk m c 16 t :=
  before0_16_of m (dats m 0 c) (A_eq m c 16) (after0_16 m c) t d
/-- Input window 17 holds its block before a point. -/
theorem before0_17 (c : Dev nD) (t : Fin cfg0.N) (d) : (dats m 0 c).before 17 t d = iblk m c 17 t :=
  before0_17_of m (dats m 0 c) (A_eq m c 17) (after0_17 m c) t d

/-- Window 18 is not written before the last point. -/
theorem idle18 : ∀ t : Fin cfg0.N, t.val ≠ 3 → cfg0.idle 18 (grid0.coords t) = true :=
  (by decide +kernel : ∀ t : Fin grid0.N, t.val ≠ 3 → idle0 18 (grid0.coords t) = true)
/-- Window 20 is not written before the last point. -/
theorem idle20 : ∀ t : Fin cfg0.N, t.val ≠ 3 → cfg0.idle 20 (grid0.coords t) = true :=
  (by decide +kernel : ∀ t : Fin grid0.N, t.val ≠ 3 → idle0 20 (grid0.coords t) = true)
/-- Window 19 is not written after the first point. -/
theorem idle19 : ∀ t : Fin cfg0.N, t.val ≠ 0 → cfg0.idle 19 (grid0.coords t) = true :=
  (by decide +kernel : ∀ t : Fin grid0.N, t.val ≠ 0 → idle0 19 (grid0.coords t) = true)
/-- Window 18 is written at the last point. -/
theorem live18 : ∀ t : Fin cfg0.N, t.val = 3 → cfg0.idle 18 (grid0.coords t) = false :=
  (by decide +kernel : ∀ t : Fin grid0.N, t.val = 3 → idle0 18 (grid0.coords t) = false)
/-- Window 20 is written at the last point. -/
theorem live20 : ∀ t : Fin cfg0.N, t.val = 3 → cfg0.idle 20 (grid0.coords t) = false :=
  (by decide +kernel : ∀ t : Fin grid0.N, t.val = 3 → idle0 20 (grid0.coords t) = false)
/-- Window 19 is written at the first point. -/
theorem live19 : ∀ t : Fin cfg0.N, t.val = 0 → cfg0.idle 19 (grid0.coords t) = false :=
  (by decide +kernel : ∀ t : Fin grid0.N, t.val = 0 → idle0 19 (grid0.coords t) = false)
/-- Window 18 is not written back before the last point. -/
theorem noflush18 (t : Fin cfg0.N) (h : t.val ≠ 3) : (cfg0.win 18).flush t = false := by
  cases hf : (cfg0.win 18).flush t
  · rfl
  · have := (flush0_18 t).mp hf; have := lt4 t; omega
/-- What the body owes of window 18 at a point that leaves it alone. -/
theorem lx18_idle (c : Dev nD) (t : Fin cfg0.N) (h3 : t.val ≠ 3) :
    (dats m 0 c).leavesExact 18 t = iprop(∃ d, owns (c : Thread nD τ) (ms0_18 t) fullShare ((dats m 0 c).before 18 t d)) :=
  (dats m 0 c).leavesExact_idle 18 t (idle18 t h3) (noflush18 t h3)
/-- What the body owes of window 18 at the point that writes it. -/
theorem lx18_live (c : Dev nD) (t : Fin cfg0.N) (h : t.val = 3) :
    (dats m 0 c).leavesExact 18 t = owns (c : Thread nD τ) (ms0_18 t) fullShare (P18 m c) := by
  unfold Dat.leavesExact; rw [live18 t h, after0_18]
/-- Window 19 is not written back before the last point. -/
theorem noflush19 (t : Fin cfg0.N) (h : t.val ≠ 3) : (cfg0.win 19).flush t = false := by
  cases hf : (cfg0.win 19).flush t
  · rfl
  · have := (flush0_19 t).mp hf; have := lt4 t; omega
/-- What the body owes of window 19 at a point that leaves it alone. -/
theorem lx19_idle (c : Dev nD) (t : Fin cfg0.N) (h3 : t.val ≠ 3) (h : t.val ≠ 0) :
    (dats m 0 c).leavesExact 19 t = iprop(∃ d, owns (c : Thread nD τ) (ms0_19 t) fullShare ((dats m 0 c).before 19 t d)) :=
  (dats m 0 c).leavesExact_idle 19 t (idle19 t h) (noflush19 t h3)
/-- What the body owes of window 19 at the point that writes it. -/
theorem lx19_live (c : Dev nD) (t : Fin cfg0.N) (h : t.val = 0) :
    (dats m 0 c).leavesExact 19 t = owns (c : Thread nD τ) (ms0_19 t) fullShare (P19 m c) := by
  unfold Dat.leavesExact; rw [live19 t h, after0_19]
/-- Window 20 is not written back before the last point. -/
theorem noflush20 (t : Fin cfg0.N) (h : t.val ≠ 3) : (cfg0.win 20).flush t = false := by
  cases hf : (cfg0.win 20).flush t
  · rfl
  · have := (flush0_20 t).mp hf; have := lt4 t; omega
/-- What the body owes of window 20 at a point that leaves it alone. -/
theorem lx20_idle (c : Dev nD) (t : Fin cfg0.N) (h3 : t.val ≠ 3) :
    (dats m 0 c).leavesExact 20 t = iprop(∃ d, owns (c : Thread nD τ) (ms0_20 t) fullShare ((dats m 0 c).before 20 t d)) :=
  (dats m 0 c).leavesExact_idle 20 t (idle20 t h3) (noflush20 t h3)
/-- What the body owes of window 20 at the point that writes it. -/
theorem lx20_live (c : Dev nD) (t : Fin cfg0.N) (h : t.val = 3) :
    (dats m 0 c).leavesExact 20 t = owns (c : Thread nD τ) (ms0_20 t) fullShare (P20 m c) := by
  unfold Dat.leavesExact; rw [live20 t h, after0_20]
/-- What the body owes of window 19 at the last point. -/
theorem lx19_flush (c : Dev nD) (t : Fin cfg0.N) (h3 : t.val = 3) :
    (dats m 0 c).leavesExact 19 t = owns (c : Thread nD τ) (ms0_19 t) fullShare (P19 m c) := by
  unfold Dat.leavesExact; rw [idle19 t (by omega), (flush0_19 t).mpr (by omega), after0_19]
/-- The probabilities' buffer is no longer fresh after the first point. -/
theorem fresh19 : ∀ t : Fin cfg0.N, t.val ≠ 0 → cfg0.fresh 19 t.val = false :=
  (by decide +kernel : ∀ t : Fin grid0.N, t.val ≠ 0 → cfg0.fresh 19 t.val = false)
/-- After the first point the probabilities' buffer is found as the first point left it. -/
theorem before19 (c : Dev nD) (t : Fin cfg0.N) (h : t.val ≠ 0) (d) : (dats m 0 c).before 19 t d = P19 m c := by
  rw [(dats m 0 c).before_out_traj 19 rfl (fun _ _ => rfl) (fun t _ _ _ => by rw [after0_19, after0_19]) t.val t rfl d,
    fresh19 t h, if_neg Bool.false_ne_true, after0_19]
/-- The body gives input window 0 back with its block. -/
theorem lx0 (c : Dev nD) (t : Fin cfg0.N) : (dats m 0 c).leavesExact 0 t = owns (c : Thread nD τ) (ms0_0 t) fullShare (iblk m c 0 t) := by
  unfold Dat.leavesExact; rw [liveAt0_0 t, after0_0]
/-- The body gives input window 1 back with its block. -/
theorem lx1 (c : Dev nD) (t : Fin cfg0.N) : (dats m 0 c).leavesExact 1 t = owns (c : Thread nD τ) (ms0_1 t) fullShare (iblk m c 1 t) := by
  unfold Dat.leavesExact; rw [liveAt0_1 t, after0_1]
/-- The body gives input window 2 back with its block. -/
theorem lx2 (c : Dev nD) (t : Fin cfg0.N) : (dats m 0 c).leavesExact 2 t = owns (c : Thread nD τ) (ms0_2 t) fullShare (iblk m c 2 t) := by
  unfold Dat.leavesExact; rw [liveAt0_2 t, after0_2]
/-- The body gives input window 3 back with its block. -/
theorem lx3 (c : Dev nD) (t : Fin cfg0.N) : (dats m 0 c).leavesExact 3 t = owns (c : Thread nD τ) (ms0_3 t) fullShare (iblk m c 3 t) := by
  unfold Dat.leavesExact; rw [liveAt0_3 t, after0_3]
/-- The body gives input window 4 back with its block. -/
theorem lx4 (c : Dev nD) (t : Fin cfg0.N) : (dats m 0 c).leavesExact 4 t = owns (c : Thread nD τ) (ms0_4 t) fullShare (iblk m c 4 t) := by
  unfold Dat.leavesExact; rw [liveAt0_4 t, after0_4]
/-- The body gives input window 5 back with its block. -/
theorem lx5 (c : Dev nD) (t : Fin cfg0.N) : (dats m 0 c).leavesExact 5 t = owns (c : Thread nD τ) (ms0_5 t) fullShare (iblk m c 5 t) := by
  unfold Dat.leavesExact; rw [liveAt0_5 t, after0_5]
/-- The body gives input window 6 back with its block. -/
theorem lx6 (c : Dev nD) (t : Fin cfg0.N) : (dats m 0 c).leavesExact 6 t = owns (c : Thread nD τ) (ms0_6 t) fullShare (iblk m c 6 t) := by
  unfold Dat.leavesExact; rw [liveAt0_6 t, after0_6]
/-- The body gives input window 7 back with its block. -/
theorem lx7 (c : Dev nD) (t : Fin cfg0.N) : (dats m 0 c).leavesExact 7 t = owns (c : Thread nD τ) (ms0_7 t) fullShare (iblk m c 7 t) := by
  unfold Dat.leavesExact; rw [liveAt0_7 t, after0_7]
/-- The body gives input window 8 back with its block. -/
theorem lx8 (c : Dev nD) (t : Fin cfg0.N) : (dats m 0 c).leavesExact 8 t = owns (c : Thread nD τ) (ms0_8 t) fullShare (iblk m c 8 t) := by
  unfold Dat.leavesExact; rw [liveAt0_8 t, after0_8]
/-- The body gives input window 9 back with its block. -/
theorem lx9 (c : Dev nD) (t : Fin cfg0.N) : (dats m 0 c).leavesExact 9 t = owns (c : Thread nD τ) (ms0_9 t) fullShare (iblk m c 9 t) := by
  unfold Dat.leavesExact; rw [liveAt0_9 t, after0_9]
/-- The body gives input window 10 back with its block. -/
theorem lx10 (c : Dev nD) (t : Fin cfg0.N) : (dats m 0 c).leavesExact 10 t = owns (c : Thread nD τ) (ms0_10 t) fullShare (iblk m c 10 t) := by
  unfold Dat.leavesExact; rw [liveAt0_10 t, after0_10]
/-- The body gives input window 11 back with its block. -/
theorem lx11 (c : Dev nD) (t : Fin cfg0.N) : (dats m 0 c).leavesExact 11 t = owns (c : Thread nD τ) (ms0_11 t) fullShare (iblk m c 11 t) := by
  unfold Dat.leavesExact; rw [liveAt0_11 t, after0_11]
/-- The body gives input window 12 back with its block. -/
theorem lx12 (c : Dev nD) (t : Fin cfg0.N) : (dats m 0 c).leavesExact 12 t = owns (c : Thread nD τ) (ms0_12 t) fullShare (iblk m c 12 t) := by
  unfold Dat.leavesExact; rw [liveAt0_12 t, after0_12]
/-- The body gives input window 13 back with its block. -/
theorem lx13 (c : Dev nD) (t : Fin cfg0.N) : (dats m 0 c).leavesExact 13 t = owns (c : Thread nD τ) (ms0_13 t) fullShare (iblk m c 13 t) := by
  unfold Dat.leavesExact; rw [liveAt0_13 t, after0_13]
/-- The body gives input window 14 back with its block. -/
theorem lx14 (c : Dev nD) (t : Fin cfg0.N) : (dats m 0 c).leavesExact 14 t = owns (c : Thread nD τ) (ms0_14 t) fullShare (iblk m c 14 t) := by
  unfold Dat.leavesExact; rw [liveAt0_14 t, after0_14]
/-- The body gives input window 15 back with its block. -/
theorem lx15 (c : Dev nD) (t : Fin cfg0.N) : (dats m 0 c).leavesExact 15 t = owns (c : Thread nD τ) (ms0_15 t) fullShare (iblk m c 15 t) := by
  unfold Dat.leavesExact; rw [liveAt0_15 t, after0_15]
/-- The body gives input window 16 back with its block. -/
theorem lx16 (c : Dev nD) (t : Fin cfg0.N) : (dats m 0 c).leavesExact 16 t = owns (c : Thread nD τ) (ms0_16 t) fullShare (iblk m c 16 t) := by
  unfold Dat.leavesExact; rw [liveAt0_16 t, after0_16]
/-- The body gives input window 17 back with its block. -/
theorem lx17 (c : Dev nD) (t : Fin cfg0.N) : (dats m 0 c).leavesExact 17 t = owns (c : Thread nD τ) (ms0_17 t) fullShare (iblk m c 17 t) := by
  unfold Dat.leavesExact; rw [liveAt0_17 t, after0_17]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

end Cert.KernelIdeal.Hand

end
-- ==== Proof.SoundA.lean ====
module

public import proofs.«01_k».proof.Proof.RunData

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 9600000 in
/-- The body's triple at the first point. -/
theorem soundA (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl]
  rw [show (dats m 0 c).Φ t.succ = PhiS m c (t.val + 1) t.isLt from rfl, PhiS_succ]
  rw [lx0, lx1, lx2, lx3, lx4, lx5, lx6, lx7, lx8, lx9, lx10, lx11, lx12, lx13, lx14, lx15, lx16, lx17]
  rw [lx18_idle m c t (by omega), lx20_idle m c t (by omega), lx19_live m c t h]
  rw [PhiS_castSucc m c t, PhiS_zero m c _ _ h, PhiA0_eq, outsAt_A m c t h, P19_eq m c t h]
  unfold stA; dsimp only
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((rA m c t h).2.2.2.2.2.2.2 Set.univ _ ((dats m 0 c).before 18 t d18) ((dats m 0 c).before 20 t d20))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexact H20
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, ⟨%e20, H19⟩, H20, ⟨%e22, HS0⟩, ⟨%e23, HS1⟩, ⟨%e24, HS2⟩, ⟨%e25, HS3⟩, ⟨%e26, HS4⟩, ⟨%e27, HS5⟩⟩
  isplitl [HS0 HS1 HS2 HS3 HS4 HS5 Hg]
  · isplitl [HS0 HS1 HS2 HS3 HS4 HS5]
    · isplitl [HS0]
      · unfold owns; iexists _; isplitr
        swap; · iexact HS0
        ipureintro; exact View.read_writes_of_cover _ _ _ _ _ (covA_S0 m c t h)
      isplitl [HS1]
      · unfold owns; iexists _; isplitr
        swap; · iexact HS1
        ipureintro; exact View.read_writes_of_cover _ _ _ _ _ (covA_S1 m c t h)
      isplitl [HS2]
      · unfold owns; iexists _; isplitr
        swap; · iexact HS2
        ipureintro; exact View.read_writes_of_cover _ _ _ _ _ (covA_S2 m c t h)
      isplitl [HS3]
      · unfold owns; iexists _; isplitr
        swap; · iexact HS3
        ipureintro; exact View.read_writes_of_cover _ _ _ _ _ (covA_S3 m c t h)
      isplitl [HS4]
      · unfold owns; iexists _; isplitr
        swap; · iexact HS4
        ipureintro; exact View.read_writes_of_cover _ _ _ _ _ (covA_S4 m c t h)
      unfold owns; iexists _; isplitr
      swap; · iexact HS5
      ipureintro; exact View.read_writes_of_cover _ _ _ _ _ (covA_S5 m c t h)
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexists _; iexact H18
  isplitl [H19]
  · unfold owns; iexists _; isplitr
    swap; · iexact H19
    ipureintro; exact View.read_writes_of_cover _ _ _ _ _ (covA_O19 m c t h)
  · iexists _; iexact H20

end Cert.KernelIdeal.Hand

end
-- ==== Proof.SoundB.lean ====
module

public import proofs.«01_k».proof.Proof.RunData

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 9600000 in
/-- The body's triple at a middle point. -/
theorem soundB (c : Dev nD) (t : Fin cfg0.N) (h : t.val ≠ 0) (h3 : t.val ≠ 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl]
  rw [show (dats m 0 c).Φ t.succ = PhiS m c (t.val + 1) t.isLt from rfl, PhiS_succ]
  rw [lx0, lx1, lx2, lx3, lx4, lx5, lx6, lx7, lx8, lx9, lx10, lx11, lx12, lx13, lx14, lx15, lx16, lx17]
  simp only [before19 m c t h]
  rw [lx18_idle m c t h3, lx20_idle m c t h3, lx19_idle m c t h3 h]
  simp only [before19 m c t h]
  rw [PhiS_castSucc m c t, PhiS_pos m c _ _ h, outsAt_B m c t h h3]
  unfold stB; dsimp only
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((rB m c t h h3 (outsAt m c (t.val - 1) (pred_lt t))).2.2.2 Set.univ _ ((dats m 0 c).before 18 t d18) (P19 m c) ((dats m 0 c).before 20 t d20) (outsAt m c (t.val - 1) (pred_lt t)).2.2.2.1)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, H20, HS0, HS1, ⟨%e24, HS2⟩, HS3, ⟨%e26, HS4⟩, ⟨%e27, HS5⟩⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · unfold owns; iexists _; isplitr
        swap; · iexact HS2
        ipureintro; exact View.read_writes_of_cover _ _ _ _ _ (covB_S2 m c t h h3 (outsAt m c (t.val - 1) (pred_lt t)))
      isplitl [HS3]
      · iexact HS3
      isplitl [HS4]
      · unfold owns; iexists _; isplitr
        swap; · iexact HS4
        ipureintro; exact View.read_writes_of_cover _ _ _ _ _ (covB_S4 m c t h h3 (outsAt m c (t.val - 1) (pred_lt t)))
      unfold owns; iexists _; isplitr
      swap; · iexact HS5
      ipureintro; exact View.read_writes_of_cover _ _ _ _ _ (covB_S5 m c t h h3 (outsAt m c (t.val - 1) (pred_lt t)))
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexists _; iexact H18
  isplitl [H19]
  · iexists default; iexact H19
  · iexists _; iexact H20

end Cert.KernelIdeal.Hand

end
-- ==== Proof.SoundC.lean ====
module

public import proofs.«01_k».proof.Proof.RunData

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 9600000 in
/-- The body's triple at the last point. -/
theorem soundC (c : Dev nD) (t : Fin cfg0.N) (h : t.val ≠ 0) (h3 : t.val = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl]
  rw [show (dats m 0 c).Φ t.succ = PhiS m c (t.val + 1) t.isLt from rfl, PhiS_succ]
  rw [lx0, lx1, lx2, lx3, lx4, lx5, lx6, lx7, lx8, lx9, lx10, lx11, lx12, lx13, lx14, lx15, lx16, lx17]
  simp only [before19 m c t h]
  rw [lx18_live m c t h3, lx20_live m c t h3, lx19_flush m c t h3]
  rw [PhiS_castSucc m c t, PhiS_pos m c _ _ h, outsAt_C m c t h h3, P18_eq m c t h h3, P20_eq m c t h h3]
  unfold stC; dsimp only
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((rC m c t h h3 (outsAt m c (t.val - 1) (pred_lt t))).2.2.2.2.2 Set.univ _ (P19 m c))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexact H19
  isplitl [H20]; · iexists _; iexact H20
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, ⟨%e19, H18⟩, H19, ⟨%e21, H20⟩, HS0, HS1, ⟨%e24, HS2⟩, HS3, ⟨%e26, HS4⟩, ⟨%e27, HS5⟩⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · unfold owns; iexists _; isplitr
        swap; · iexact HS2
        ipureintro; exact View.read_writes_of_cover _ _ _ _ _ (covC_S2 m c t h h3 (outsAt m c (t.val - 1) (pred_lt t)))
      isplitl [HS3]
      · iexact HS3
      isplitl [HS4]
      · unfold owns; iexists _; isplitr
        swap; · iexact HS4
        ipureintro; exact View.read_writes_of_cover _ _ _ _ _ (covC_S4 m c t h h3 (outsAt m c (t.val - 1) (pred_lt t)))
      unfold owns; iexists _; isplitr
      swap; · iexact HS5
      ipureintro; exact View.read_writes_of_cover _ _ _ _ _ (covC_S5 m c t h h3 (outsAt m c (t.val - 1) (pred_lt t)))
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · unfold owns; iexists _; isplitr
    swap; · iexact H18
    ipureintro; exact View.read_writes_of_cover _ _ _ _ _ (covC_O18 m c t h h3 (outsAt m c (t.val - 1) (pred_lt t)))
  isplitl [H19]
  · iexact H19
  · unfold owns; iexists _; isplitr
    swap; · iexact H20
    ipureintro; exact View.read_writes_of_cover _ _ _ _ _ (covC_O20 m c t h h3 (outsAt m c (t.val - 1) (pred_lt t)))

end Cert.KernelIdeal.Hand

end
-- ==== Proof.Run.lean ====
module

public import proofs.«01_k».proof.Proof.SoundA
public import proofs.«01_k».proof.Proof.SoundB
public import proofs.«01_k».proof.Proof.SoundC
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's triple at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact soundA m c t h
  · by_cases h3 : t.val = 3
    · exact soundC m c t h h3
    · exact soundB m c t h h3

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch back at anything. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5
  iexact Hg

/-- After the last point the scratch may hold anything. -/
theorem hout (c : Dev nD) : (dats m 0 c).Φ (Fin.last cfg0.N) ⊢ Pipeline.ΦA spec0 c :=
  Phi_out m c _ (by rw [Fin.val_last]; have : cfg0.N = 4 := N_0; omega)

set_option backward.isDefEq.respectTransparency.types false in
/-- The launch: every result array ends at what its window wrote back, every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch: every result array ends at what its window wrote back. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r =>
      (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))) :=
  frame_of m ρ (dats m) (A_eq m) (run_main m ρ)

/-- The argument arrays end unchanged and every semaphore ends at zero. -/
theorem frame : θ_run defs (onTc (τ := τ) (main (F := F))) ⟨m, fun _ => 0, ρ⟩ (fun r =>
      (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.KernelIdeal.Hand

end
-- ==== Proof.ValMath.lean ====
/- The row mathematics both programs share, over the extended reals: the position of a row's first maximum, four picks
   by repeated masking, their agreement with the stable order by value and then by position, and the normalised gate. -/
module

public import Idealize.ShloMosaic.Lib.Pointwise
public import Idealize.ShloMosaic.Lib.SortPrefix
public import Idealize.ShloMosaic.Lib.SortFacts
public import Idealize.ShloMosaic.Lib.SortNet.Extract

@[expose] public section

set_option maxRecDepth 16384

noncomputable section

namespace Cert.Val

open Idealize.ShloMosaic

/-- The maximum of a row, from minus infinity. -/
def rmax {n : Nat} (g : Fin n → EReal) : EReal := Finset.univ.fold max ⊥ g

/-- Every entry of a row is at most its maximum. -/
theorem le_rmax {n : Nat} (g : Fin n → EReal) (e : Fin n) : g e ≤ rmax g :=
  (Finset.le_fold_max _).2 (Or.inr ⟨e, Finset.mem_univ _, le_rfl⟩)

/-- A row with an entry attains its maximum. -/
theorem exists_rmax {n : Nat} (g : Fin (n + 1) → EReal) : ∃ e, g e = rmax g := by
  obtain ⟨e, -, he⟩ := Finset.exists_max_image Finset.univ g ⟨0, Finset.mem_univ _⟩
  exact ⟨e, le_antisymm (le_rmax g e) ((Finset.fold_max_le _).2 ⟨bot_le, fun x hx => he x hx⟩)⟩

/-- The first position attaining the maximum exists. -/
theorem exists_first (g : Fin 16 → EReal) : ∃ m, g m = rmax g ∧ ∀ q, g q = rmax g → m ≤ q := by
  classical
  obtain ⟨e, he⟩ := exists_rmax g
  have hne : (Finset.univ.filter fun q => g q = rmax g).Nonempty := ⟨e, by simp [he]⟩
  refine ⟨(Finset.univ.filter fun q => g q = rmax g).min' hne, ?_, fun q hq => Finset.min'_le _ _ (by simp [hq])⟩
  have := Finset.min'_mem _ hne
  simpa using this

/-- The first position attaining a row's maximum. -/
def first (g : Fin 16 → EReal) : Fin 16 := (exists_first g).choose

/-- The first maximal position attains the maximum. -/
theorem first_eq (g : Fin 16 → EReal) : g (first g) = rmax g := (exists_first g).choose_spec.1

/-- No earlier position attains the maximum. -/
theorem first_le (g : Fin 16 → EReal) (q : Fin 16) (h : g q = rmax g) : first g ≤ q := (exists_first g).choose_spec.2 q h

/-- The least lane index among the lanes that attain the maximum, as a word, is the first such position. -/
theorem fold_min_word (g : Fin 16 → EReal) :
    Finset.univ.fold IntOp.minsi 2147483647#32 (fun x : Fin 16 => if g x = rmax g then BitVec.ofNat 32 x.val else 16#32)
      = BitVec.ofNat 32 (first g).val := by
  refine BitVec.eq_of_toInt_eq ?_
  rw [← Finset.fold_hom (op' := min) (m := BitVec.toInt) (fun x y => SortNet.toInt_minsi x y)]
  have hw : ∀ x : Fin 16, (BitVec.ofNat 32 x.val).toInt = (x.val : Int) := by decide
  have hx : ∀ x : Fin 16, (if g x = rmax g then BitVec.ofNat 32 x.val else 16#32).toInt
      = if g x = rmax g then (x.val : Int) else 16 := fun x => by
    split
    · exact hw x
    · rfl
  simp only [hx, hw]
  refine le_antisymm ?_ ?_
  · refine (Finset.fold_min_le _).2 (Or.inr ⟨first g, Finset.mem_univ _, ?_⟩)
    rw [if_pos (first_eq g)]
  · refine (Finset.le_fold_min _).2 ⟨?_, fun x _ => ?_⟩
    · have : (2147483647#32).toInt = 2147483647 := by decide
      rw [this]; have := (first g).isLt; omega
    · split
      · rename_i h; have := first_le g x h; exact_mod_cast this
      · have := (first g).isLt; omega

/-- Comparing lane words is comparing lanes. -/
theorem lane_eq (e m : Fin 16) : IntOp.cmpi .eq (BitVec.ofNat 32 e.val) (BitVec.ofNat 32 m.val) = BitVec.ofBool (decide (e = m)) := by
  revert e m; decide

/-- The row with the positions of `S` set to minus one. -/
def mskS (g : Fin 16 → EReal) (S : Finset (Fin 16)) (e : Fin 16) : EReal := if e ∈ S then -1 else g e

/-- The four picks: each the first maximum of the row with the earlier picks masked. -/
def p1 (g : Fin 16 → EReal) : Fin 16 := first (mskS g ∅)
def p2 (g : Fin 16 → EReal) : Fin 16 := first (mskS g {p1 g})
def p3 (g : Fin 16 → EReal) : Fin 16 := first (mskS g {p2 g, p1 g})
def p4 (g : Fin 16 → EReal) : Fin 16 := first (mskS g {p3 g, p2 g, p1 g})

/-- The picks in order. -/
def picks (g : Fin 16 → EReal) : Fin 4 → Fin 16 := ![p1 g, p2 g, p3 g, p4 g]

/-- The picked positions. -/
def picked (g : Fin 16 → EReal) : Finset (Fin 16) := {p4 g, p3 g, p2 g, p1 g}

/-- On a row of nonnegative entries the next pick is a new position, and no position left is larger, or equal and earlier. -/
theorem pick_spec (g : Fin 16 → EReal) (hg : ∀ e, 0 ≤ g e) (S : Finset (Fin 16)) (hS : S.card < 16) :
    first (mskS g S) ∉ S ∧ ∀ q, q ∉ S → g q ≤ g (first (mskS g S)) ∧ (g q = g (first (mskS g S)) → first (mskS g S) ≤ q) := by
  have hle : ∀ q, mskS g S q ≤ mskS g S (first (mskS g S)) := fun q => (le_rmax _ q).trans_eq (first_eq _).symm
  have hnot : first (mskS g S) ∉ S := by
    intro h
    obtain ⟨q, hq⟩ : ∃ q, q ∉ S := by
      by_contra hall
      push Not at hall
      have : S = Finset.univ := Finset.eq_univ_iff_forall.2 hall
      rw [this] at hS; simp at hS
    have h1 := hle q
    rw [mskS, mskS, if_neg hq, if_pos h] at h1
    have h2 : (0 : EReal) ≤ -1 := (hg q).trans h1
    exact absurd h2 (by simp)
  refine ⟨hnot, fun q hq => ⟨?_, fun he => first_le _ q ?_⟩⟩
  · have h1 := hle q
    rwa [mskS, mskS, if_neg hq, if_neg hnot] at h1
  · rw [← first_eq, mskS, mskS, if_neg hq, if_neg hnot, he]

/-- The reference's comparison: strictly greater. -/
def gtB (g : Fin 16 → EReal) (k k' : Fin 16) : Bool := decide (g k' < g k)

/-- The comparison refined by position: greater, or equal and earlier. -/
def gtR (g : Fin 16 → EReal) (k k' : Fin 16) : Bool := gtB g k k' || (decide (g k = g k') && decide (k < k'))

/-- The refined comparison is a strict total order. -/
theorem gtR_total (g : Fin 16 → EReal) : StrictTotalBefore (gtR g) :=
  StrictTotalBefore.of_key_then_position (fun a b : EReal => decide (b < a)) g (by simp)
    (fun a b c h1 h2 => by simp only [decide_eq_true_eq] at *; exact h2.trans h1)
    (fun a b => by simp only [decide_eq_true_eq]; rcases lt_trichotomy a b with h | h | h <;> simp [h])

/-- A stable sort of positions taken in order is the same under the comparison by value and the one refined by position. -/
theorem stableSort_refine (g : Fin 16 → EReal) (l : List (Fin 16)) (hl : l.Pairwise (· < ·)) :
    stableSort (gtB g) l = stableSort (gtR g) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.1 hb)
    unfold gtR
    simp [not_lt.2 hab.le]

/-- Equal sorting permutations read equal positions. -/
theorem sortedFrom_of_positions {n : Nat} (B R : Fin n → Fin n → Bool) (h : sortPositions n B = sortPositions n R) (k : Fin n) :
    sortedFrom B k = sortedFrom R k := by
  unfold sortedFrom
  simp only [List.get_eq_getElem]
  exact List.getElem_of_eq h _

/-- The sort by value reads the same positions as the sort by value and position. -/
theorem sortedFrom_refine (g : Fin 16 → EReal) (k : Fin 16) : sortedFrom (gtB g) k = sortedFrom (gtR g) k :=
  sortedFrom_of_positions _ _ (stableSort_refine g _ (List.pairwise_lt_finRange 16)) k

/-- The picks of a nonnegative row are distinct positions. -/
theorem picks_new (g : Fin 16 → EReal) (hg : ∀ e, 0 ≤ g e) :
    p2 g ≠ p1 g ∧ p3 g ≠ p2 g ∧ p3 g ≠ p1 g ∧ p4 g ≠ p3 g ∧ p4 g ≠ p2 g ∧ p4 g ≠ p1 g := by
  have h2 := (pick_spec g hg {p1 g} (by simp)).1
  have h3 := (pick_spec g hg {p2 g, p1 g} (lt_of_le_of_lt (Finset.card_le_two) (by decide))).1
  have h4 := (pick_spec g hg {p3 g, p2 g, p1 g} (lt_of_le_of_lt (Finset.card_le_three) (by decide))).1
  rw [show first (mskS g {p1 g}) = p2 g from rfl] at h2
  rw [show first (mskS g {p2 g, p1 g}) = p3 g from rfl] at h3
  rw [show first (mskS g {p3 g, p2 g, p1 g}) = p4 g from rfl] at h4
  simp only [Finset.mem_insert, Finset.mem_singleton, not_or] at h2 h3 h4
  exact ⟨h2, h3.1, h3.2, h4.1, h4.2.1, h4.2.2⟩

/-- The four picks of a nonnegative row are distinct. -/
theorem picks_injective (g : Fin 16 → EReal) (hg : ∀ e, 0 ≤ g e) : Function.Injective (picks g) := by
  obtain ⟨h21, h32, h31, h43, h42, h41⟩ := picks_new g hg
  have hne : ∀ i j : Fin 4, i < j → picks g i ≠ picks g j := by
    intro i j hij
    fin_cases i <;> fin_cases j <;>
    first
      | exact absurd hij (by decide)
      | exact h21.symm
      | exact h32.symm
      | exact h31.symm
      | exact h43.symm
      | exact h42.symm
      | exact h41.symm
  intro i j h
  rcases lt_trichotomy i j with hl | he | hl
  · exact absurd h (hne i j hl)
  · exact he
  · exact absurd h.symm (hne j i hl)

/-- A position that does not precede a pick in the refined order. -/
theorem gtR_false (g : Fin 16 → EReal) (q m : Fin 16) (h : g q ≤ g m ∧ (g q = g m → m ≤ q)) : gtR g q m = false := by
  unfold gtR gtB
  simp only [Bool.or_eq_false_iff, decide_eq_false_iff_not, not_lt, Bool.and_eq_false_iff]
  refine ⟨h.1, ?_⟩
  by_cases he : g q = g m
  · exact Or.inr (by simpa using h.2 he)
  · exact Or.inl (by simpa using he)

/-- The sort's first four positions are the picks, on a nonnegative row. -/
theorem sortedFrom_picks (g : Fin 16 → EReal) (hg : ∀ e, 0 ≤ g e) (i : Fin 4) :
    sortedFrom (gtB g) (i.castLE (by decide)) = picks g i := by
  obtain ⟨h21, h32, h31, h43, h42, h41⟩ := picks_new g hg
  have s1 := (pick_spec g hg ∅ (by simp)).2
  have s2 := (pick_spec g hg {p1 g} (by simp)).2
  have s3 := (pick_spec g hg {p2 g, p1 g} (lt_of_le_of_lt (Finset.card_le_two) (by decide))).2
  have s4 := (pick_spec g hg {p3 g, p2 g, p1 g} (lt_of_le_of_lt (Finset.card_le_three) (by decide))).2
  rw [show first (mskS g ∅) = p1 g from rfl] at s1
  rw [show first (mskS g {p1 g}) = p2 g from rfl] at s2
  rw [show first (mskS g {p2 g, p1 g}) = p3 g from rfl] at s3
  rw [show first (mskS g {p3 g, p2 g, p1 g}) = p4 g from rfl] at s4
  rw [sortedFrom_refine]
  refine (gtR_total g).sortedFrom_eq_of_prefix (by decide) (picks g) (picks_injective g hg) ?_ ?_ i
  · intro i j hij
    fin_cases i <;> fin_cases j <;>
      first
        | exact absurd hij (by decide)
        | exact gtR_false g _ _ (s1 _ (by simp))
        | exact gtR_false g _ _ (s2 _ (by simp [picks, h21, h32, h31, h43, h42, h41]))
        | exact gtR_false g _ _ (s3 _ (by simp [picks, h21, h32, h31, h43, h42, h41]))
  · intro i p hp
    have e1 := hp 0
    have e2 := hp 1
    have e3 := hp 2
    have e4 := hp 3
    simp only [picks, Matrix.cons_val] at e1 e2 e3 e4
    fin_cases i
    · exact gtR_false g _ _ (s1 p (by simp))
    · exact gtR_false g _ _ (s2 p (by simp [Ne.symm e1]))
    · exact gtR_false g _ _ (s3 p (by simp [Ne.symm e1, Ne.symm e2]))
    · exact gtR_false g _ _ (s4 p (by simp [Ne.symm e1, Ne.symm e2, Ne.symm e3]))

/-- The normaliser's small constant. -/
def eps : EReal := Ideal.ofBits .f32 814313567#32

/-- The gate of a row: the picked entries over their sum and the small constant; zero elsewhere. -/
def gate (g : Fin 16 → EReal) (e : Fin 16) : EReal :=
  Ideal.div (if e ∈ picked g then g e else 0) ((∑ x, if x ∈ picked g then g x else 0) + eps)

end Cert.Val
end
-- ==== Proof.ValSoft.lean ====
/- The softmax row over the extended reals, the values it can take, and what they give the gate. -/
module

public import proofs.«01_k».proof.Proof.ValMath

@[expose] public section

set_option maxRecDepth 16384

noncomputable section

namespace Cert.Val

open Idealize.ShloMosaic

/-- The word of minus infinity. -/
theorem negInf : Ideal.ofBits .f32 4286578688#32 = ⊥ := by
  simp [Ideal.ofBits, Ideal.ieee]

/-- The word of minus one. -/
theorem negOne : Ideal.ofBits .f32 3212836864#32 = -1 := by
  simp [Ideal.ofBits, Ideal.ieee, -EReal.coe_mul]; norm_num

/-- The small constant is a positive real. -/
theorem eps_real : ∃ ε : ℝ, 0 < ε ∧ eps = (ε : EReal) := by
  refine ⟨9007199 * (2 : ℝ) ^ (-53 : Int), by positivity, ?_⟩
  unfold eps
  simp [Ideal.ofBits, Ideal.ieee, -EReal.coe_mul]

/-- The row's softmax: exponentials of the differences from the maximum over their sum. -/
def sm (l : Fin 16 → EReal) (e : Fin 16) : EReal :=
  Ideal.div (Ideal.exp (l e - rmax l)) (∑ x, Ideal.exp (l x - rmax l))

/-- The exponential of minus infinity is zero. -/
theorem exp_bot : Ideal.exp ⊥ = 0 := rfl

/-- A sum of reals is a real. -/
theorem sum_coe {n : Nat} (f : Fin n → ℝ) : (∑ x, ((f x : ℝ) : EReal)) = ((∑ x, f x : ℝ) : EReal) := by
  induction (Finset.univ : Finset (Fin n)) using Finset.induction_on with
  | empty => simp
  | insert a s ha ih => rw [Finset.sum_insert ha, Finset.sum_insert ha, ih, EReal.coe_add]

/-- A softmax row is minus infinity throughout or consists of nonnegative reals. -/
theorem sm_cases (l : Fin 16 → EReal) : (∀ e, sm l e = ⊥) ∨ ∃ ρ : Fin 16 → ℝ, (∀ e, 0 ≤ ρ e) ∧ ∀ e, sm l e = (ρ e : EReal) := by
  obtain ⟨a, ha⟩ := exists_rmax l
  have zeros : (∀ x, l x - rmax l = ⊥) → ∀ e, sm l e = ⊥ := fun h e => by
    unfold sm
    simp only [h, exp_bot, Finset.sum_const_zero]
    unfold Ideal.div
    simp
  rcases eq_or_ne (rmax l) ⊤ with ht | ht
  · exact Or.inl (zeros fun x => by rw [ht]; exact EReal.sub_top _)
  rcases eq_or_ne (rmax l) ⊥ with hb | hb
  · refine Or.inl (zeros fun x => ?_)
    have : l x = ⊥ := le_bot_iff.1 ((le_rmax l x).trans_eq hb)
    rw [this]; exact EReal.bot_sub _
  · obtain ⟨M, hM⟩ : ∃ M : ℝ, rmax l = (M : EReal) := ⟨(rmax l).toReal, (EReal.coe_toReal ht hb).symm⟩
    have hw : ∀ x, ∃ w : ℝ, 0 ≤ w ∧ Ideal.exp (l x - rmax l) = (w : EReal) := fun x => by
      rcases eq_or_ne (l x) ⊥ with h | h
      · exact ⟨0, le_rfl, by rw [h, EReal.bot_sub]; rfl⟩
      · have h' : l x ≠ ⊤ := fun h' => ht (top_le_iff.1 (h' ▸ le_rmax l x))
        refine ⟨Real.exp ((l x).toReal - M), (Real.exp_pos _).le, ?_⟩
        rw [hM, ← EReal.coe_toReal h' h, ← EReal.coe_sub]
        simp only [EReal.toReal_coe]
        rfl
    choose w hw0 hw using hw
    have hwa : w a = 1 := by
      have h := hw a
      rw [ha, hM, ← EReal.coe_sub, sub_self] at h
      have h1 : Ideal.exp ((0 : ℝ) : EReal) = ((1 : ℝ) : EReal) := by
        show ((Real.exp 0 : ℝ) : EReal) = _
        rw [Real.exp_zero]
      rw [h1] at h
      exact (EReal.coe_injective h).symm
    have hS : 0 < ∑ x, w x :=
      lt_of_lt_of_le (by rw [hwa]; exact one_pos) (Finset.single_le_sum (fun x _ => hw0 x) (Finset.mem_univ a))
    refine Or.inr ⟨fun e => w e / ∑ x, w x, fun e => div_nonneg (hw0 e) hS.le, fun e => ?_⟩
    unfold sm
    rw [hw e, Finset.sum_congr rfl fun x _ => hw x, sum_coe]
    rw [Ideal.div_coe hS.ne', ← EReal.coe_mul, mul_one_div]

/-- On a row of minus infinity every gate is zero. -/
theorem gate_bot (g : Fin 16 → EReal) (hg : ∀ e, g e = ⊥) (e : Fin 16) : gate g e = 0 := by
  have hs : (∑ x, if x ∈ picked g then g x else 0) = ⊥ := by
    rw [← Finset.add_sum_erase _ _ (Finset.mem_univ (p1 g)), if_pos (by simp [picked]), hg, EReal.bot_add]
  unfold gate
  rw [hs, EReal.bot_add]
  unfold Ideal.div
  rw [if_neg EReal.bot_ne_zero, EReal.inv_bot, mul_zero]

/-- The gate of a row of nonnegative reals is a nonnegative real. -/
theorem gate_real (g : Fin 16 → EReal) (ρ : Fin 16 → ℝ) (h0 : ∀ e, 0 ≤ ρ e) (hg : ∀ e, g e = (ρ e : EReal)) (e : Fin 16) :
    ∃ γ : ℝ, 0 ≤ γ ∧ gate g e = (γ : EReal) := by
  obtain ⟨ε, hε, he⟩ := eps_real
  have hi : ∀ x, (if x ∈ picked g then g x else 0) = (((if x ∈ picked g then ρ x else 0 : ℝ)) : EReal) := fun x => by
    split
    · exact hg x
    · rfl
  have hn : ∀ x, (0 : ℝ) ≤ if x ∈ picked g then ρ x else 0 := fun x => by
    split
    · exact h0 x
    · exact le_rfl
  have hS : 0 < (∑ x, if x ∈ picked g then ρ x else 0) + ε := add_pos_of_nonneg_of_pos (Finset.sum_nonneg fun x _ => hn x) hε
  refine ⟨(if e ∈ picked g then ρ e else 0) / ((∑ x, if x ∈ picked g then ρ x else 0) + ε), div_nonneg (hn e) hS.le, ?_⟩
  unfold gate
  rw [Finset.sum_congr rfl fun x _ => hi x, sum_coe, he, ← EReal.coe_add, hi e, Ideal.div_coe hS.ne', ← EReal.coe_mul,
    mul_one_div]

/-- A softmax row's gate is nonnegative and finite. -/
theorem gate_range (l : Fin 16 → EReal) (e : Fin 16) : 0 ≤ gate (sm l) e ∧ gate (sm l) e ≠ ⊤ := by
  rcases sm_cases l with h | ⟨ρ, h0, h⟩
  · rw [gate_bot _ h]; exact ⟨le_rfl, EReal.zero_ne_top⟩
  · obtain ⟨γ, hγ, he⟩ := gate_real _ ρ h0 h e
    rw [he]; exact ⟨by exact_mod_cast hγ, EReal.coe_ne_top _⟩

/-- The value the reference scatters to a picked position: the picked entry over the sum of the four and the small
    constant. -/
def topGate (g : Fin 16 → EReal) (σ : Fin 4 → Fin 16) (a : Fin 4) : EReal := Ideal.div (g (σ a)) ((∑ b, g (σ b)) + eps)

/-- The position the reference's sort puts `a`-th. -/
def srt (g : Fin 16 → EReal) (a : Fin 4) : Fin 16 := sortedFrom (gtB g) (a.castLE (by decide))

/-- The picked positions are the picks. -/
theorem picked_image (g : Fin 16 → EReal) : picked g = Finset.univ.image (picks g) := by
  ext x
  rw [Finset.mem_image]
  constructor
  · intro h
    simp only [picked, Finset.mem_insert, Finset.mem_singleton] at h
    rcases h with h | h | h | h
    · exact ⟨3, Finset.mem_univ _, h.symm⟩
    · exact ⟨2, Finset.mem_univ _, h.symm⟩
    · exact ⟨1, Finset.mem_univ _, h.symm⟩
    · exact ⟨0, Finset.mem_univ _, h.symm⟩
  · rintro ⟨a, -, rfl⟩
    simp only [picked, Finset.mem_insert, Finset.mem_singleton]
    revert a
    exact Fin.forall_fin_succ.2 ⟨Or.inr (Or.inr (Or.inr rfl)), Fin.forall_fin_succ.2 ⟨Or.inr (Or.inr (Or.inl rfl)),
      Fin.forall_fin_succ.2 ⟨Or.inr (Or.inl rfl), Fin.forall_fin_succ.2 ⟨Or.inl rfl, fun i => i.elim0⟩⟩⟩⟩

/-- The reference's scattered value at a position it writes is the gate. -/
theorem topGate_hit (l : Fin 16 → EReal) (a : Fin 4) : topGate (sm l) (srt (sm l)) a = gate (sm l) (srt (sm l) a) := by
  rcases sm_cases l with h | ⟨ρ, h0, h⟩
  · rw [gate_bot _ h]
    unfold topGate
    simp only [h]
    have hs : (∑ _b : Fin 4, (⊥ : EReal)) = ⊥ := by
      rw [← Finset.add_sum_erase _ _ (Finset.mem_univ (0 : Fin 4)), EReal.bot_add]
    rw [hs, EReal.bot_add]
    unfold Ideal.div
    rw [if_neg EReal.bot_ne_zero, EReal.inv_bot, mul_zero]
  · have hg : ∀ e, 0 ≤ sm l e := fun e => by rw [h e]; exact_mod_cast h0 e
    have hσ : ∀ b, srt (sm l) b = picks (sm l) b := sortedFrom_picks (sm l) hg
    have himg := picked_image (sm l)
    have hsum : (∑ x, if x ∈ picked (sm l) then sm l x else 0) = ∑ b, sm l (picks (sm l) b) := by
      rw [Finset.sum_ite_mem, Finset.univ_inter, himg, Finset.sum_image fun _ _ _ _ hh => picks_injective _ hg hh]
    unfold topGate gate
    rw [hsum, if_pos (by rw [hσ, himg]; exact Finset.mem_image_of_mem _ (Finset.mem_univ _)),
      Finset.sum_congr rfl fun b _ => congrArg (sm l) (hσ b)]

/-- At a position the reference does not write the gate is zero. -/
theorem topGate_miss (l : Fin 16 → EReal) (e : Fin 16) (he : ∀ a, srt (sm l) a ≠ e) : gate (sm l) e = 0 := by
  rcases sm_cases l with h | ⟨ρ, h0, h⟩
  · exact gate_bot _ h e
  · have hg : ∀ e, 0 ≤ sm l e := fun e => by rw [h e]; exact_mod_cast h0 e
    have hσ : ∀ b, srt (sm l) b = picks (sm l) b := sortedFrom_picks (sm l) hg
    have hn : e ∉ picked (sm l) := by
      have e0 := he 0
      have e1 := he 1
      have e2 := he 2
      have e3 := he 3
      rw [hσ] at e0 e1 e2 e3
      simp only [picks, Matrix.cons_val] at e0 e1 e2 e3
      simp only [picked, Finset.mem_insert, Finset.mem_singleton, not_or]
      exact ⟨Ne.symm e3, Ne.symm e2, Ne.symm e1, Ne.symm e0⟩
    obtain ⟨ε, hε, hee⟩ := eps_real
    have hS : (∑ x, if x ∈ picked (sm l) then sm l x else 0) + eps ≠ 0 := by
      refine (lt_of_lt_of_le (b := eps) (by rw [hee]; exact_mod_cast hε) ?_).ne'
      refine le_add_of_nonneg_left (Finset.sum_nonneg fun x _ => ?_)
      split
      · exact hg x
      · exact le_rfl
    unfold gate
    rw [if_neg hn]
    unfold Ideal.div
    rw [if_neg hS, zero_mul]

end Cert.Val

end
-- ==== Proof.ValSpec.lean ====
/- The arguments of both programs as arrays, and the layer's value on them, read at an index over the extended reals. -/
module

public import proofs.«01_k».proof.Proof.ValSoft

@[expose] public section

set_option maxRecDepth 16384

noncomputable section

namespace Cert.Val

open Idealize.ShloMosaic

/-- The arguments, in order. -/
structure Args where
  a0 : IVec ⟨1, ![4096]⟩ 32
  a1 : IVec ⟨1, ![4096]⟩ 32
  a2 : IVec ⟨1, ![4096]⟩ 32
  a3 : IVec ⟨1, ![4096]⟩ 32
  a4 : FVec Ideal ⟨2, ![8, 32]⟩ .f32
  a5 : FVec Ideal ⟨2, ![49, 256]⟩ .f32
  a6 : FVec Ideal ⟨1, ![256]⟩ .f32
  a7 : FVec Ideal ⟨2, ![256, 256]⟩ .f32
  a8 : FVec Ideal ⟨1, ![256]⟩ .f32
  a9 : FVec Ideal ⟨2, ![256, 16]⟩ .f32
  a10 : FVec Ideal ⟨3, ![16, 256, 512]⟩ .f32
  a11 : FVec Ideal ⟨2, ![16, 512]⟩ .f32
  a12 : FVec Ideal ⟨3, ![16, 512, 256]⟩ .f32
  a13 : FVec Ideal ⟨2, ![16, 256]⟩ .f32
  a14 : FVec Ideal ⟨2, ![256, 64]⟩ .f32
  a15 : FVec Ideal ⟨1, ![64]⟩ .f32
  a16 : FVec Ideal ⟨2, ![64, 8]⟩ .f32
  a17 : FVec Ideal ⟨1, ![8]⟩ .f32

/-- Bit `k` of a word, as a number. -/
def bit (w : BitVec 32) (k : Fin 8) : EReal :=
  FloatOps.sitofp (F := Ideal) .f32 (IntOp.andi (IntOp.shrsi .vector w (BitVec.ofNat 32 k.val)) 1#32)

/-- The operator of a row. -/
def Args.op (A : Args) (r : Fin 4096) : Fin 8 := ⟨(A.a0 (ix1 r)).toNat % 8, Nat.mod_lt _ (by decide)⟩

/-- The four parts of the input projection, and its bias. -/
def Args.lin (A : Args) (r : Fin 4096) (d : Fin 256) : EReal :=
  (∑ k : Fin 32, A.a4 (ix2 (A.op r) k) * A.a5 (ix2 (⟨k.val, by omega⟩ : Fin 49) d))
    + (∑ k : Fin 8, bit (A.a1 (ix1 r)) k * A.a5 (ix2 (⟨32 + k.val, by omega⟩ : Fin 49) d))
    + (∑ k : Fin 8, bit (A.a2 (ix1 r)) k * A.a5 (ix2 (⟨40 + k.val, by omega⟩ : Fin 49) d))
    + FloatOps.sitofp (F := Ideal) .f32 (A.a3 (ix1 r)) * A.a5 (ix2 (48 : Fin 49) d)
    + A.a6 (ix1 d)

/-- The residual mixing layer. -/
def Args.x (A : Args) (r : Fin 4096) (d : Fin 256) : EReal :=
  A.lin r d + (∑ k : Fin 256, Ideal.tanh (A.lin r k) * A.a7 (ix2 k d)) + A.a8 (ix1 d)

/-- The router logits. -/
def Args.logit (A : Args) (r : Fin 4096) (e : Fin 16) : EReal := ∑ k : Fin 256, A.x r k * A.a9 (ix2 k e)

/-- The router probabilities. -/
def Args.p (A : Args) (r : Fin 4096) : Fin 16 → EReal := sm (A.logit r)

/-- The gates. -/
def Args.g (A : Args) (r : Fin 4096) (e : Fin 16) : EReal := gate (A.p r) e

/-- The output of expert `t` before its bias. -/
def Args.hw (A : Args) (t : Fin 16) (r : Fin 4096) (d : Fin 256) : EReal :=
  ∑ h : Fin 512, max ((∑ k : Fin 256, A.x r k * A.a10 (ix3 t k h)) + A.a11 (ix2 t h)) 0 * A.a12 (ix3 t h d)

/-- The gated mix of the experts. -/
def Args.moe (A : Args) (r : Fin 4096) (d : Fin 256) : EReal :=
  ∑ t : Fin 16, A.g r t * (A.hw t r d + A.a13 (ix2 t d))

/-- The head's value before the logistic function. -/
def Args.z (A : Args) (r : Fin 4096) (d : Fin 8) : EReal :=
  (∑ h : Fin 64, max ((∑ k : Fin 256, A.moe r k * A.a14 (ix2 k h)) + A.a15 (ix1 h)) 0 * A.a16 (ix2 h d)) + A.a17 (ix1 d)

/-- The result. -/
def Args.out (A : Args) (r : Fin 4096) (d : Fin 8) : EReal := Ideal.div 1 (1 + Ideal.exp (-A.z r d))

/-- The gap of a weight from being ternary. -/
def tern (w : EReal) : EReal := FloatOps.absf (F := Ideal) (φ := .f32) (Ideal.tanh w) * (1 - FloatOps.absf (F := Ideal) (φ := .f32) (Ideal.tanh w))

/-- Its sum over both weight arrays, expert by expert. -/
def Args.t1 (A : Args) (t : Fin 16) : EReal := ∑ k : Fin 256, ∑ h : Fin 512, tern (A.a10 (ix3 t k h))
def Args.t2 (A : Args) (t : Fin 16) : EReal := ∑ h : Fin 512, ∑ d : Fin 256, tern (A.a12 (ix3 t h d))

/-- The load balance: the mean probability times the mean gate, summed over the experts. -/
def Args.balance (A : Args) : EReal :=
  ∑ e : Fin 16, Ideal.div (∑ r : Fin 4096, A.p r e) (Ideal.ofBits .f32 1166016512#32)
    * Ideal.div (∑ r : Fin 4096, A.g r e) (Ideal.ofBits .f32 1166016512#32)

/-- The spread of the probabilities. -/
def Args.spread (A : Args) : EReal := ∑ r : Fin 4096, ∑ e : Fin 16, A.p r e * (1 - A.p r e)

/-- The auxiliary loss. -/
def Args.aux (A : Args) : EReal :=
  Ideal.ofBits .f32 1008981770#32
      * (Ideal.div (∑ t : Fin 16, A.t1 t) (Ideal.ofBits .f32 1241513984#32)
        + Ideal.div (∑ t : Fin 16, A.t2 t) (Ideal.ofBits .f32 1241513984#32))
    + Ideal.ofBits .f32 1000593162#32 * Ideal.div A.spread (Ideal.ofBits .f32 1166016512#32)
    + Ideal.ofBits .f32 1042536202#32 * A.balance

end Cert.Val

end
-- ==== Proof.RefTerm.lean ====
/- The reference's composed terms over its arguments as arrays. -/
module

public import proofs.«01_k».proof.Proof.Gen.ReferenceIdeal.Run
public import proofs.«01_k».proof.Proof.ValSpec

@[expose] public section

set_option maxRecDepth 16384

noncomputable section

namespace Cert.Val

open Idealize.ShloMosaic Cert.ReferenceIdeal Cert.ReferenceIdeal.Gen Cert.ReferenceIdeal.Value

/-- The operator index column: a negative index counted from the end of the table. -/
def refOp (A : Args) : IVec S4096x1 32 :=
  broadcastInDim S4096x1 ![0] bcast_S4096_S4096x1_0 (select (cmpi .slt A.a0 (broadcastInDim S4096 ![] bcast_S_S4096 (constantI S_ 32 0#32))) (addi A.a0 (broadcastInDim S4096 ![] bcast_S_S4096 (constantI S_ 32 8#32))) A.a0)

/-- The token row: the operator's embedding, the bits of both operands, the carry. -/
def refTok (A : Args) (I : IVec S4096x1 32) : FVec Ideal S4096x49 .f32 :=
  (concatenate S4096x49 1 [⟨S4096x32, ((select (broadcastInDim S4096x32 ![0] bcast_S4096_S4096x32_0 (Host.reduce IntOp.andi (andi (cmpi .sge I (broadcastInDim S4096x1 ![] bcast_S_S4096x1 (constantI S_ 32 0#32))) (cmpi .sle I (broadcastInDim S4096x1 ![0, 1] bcast_S1x1_S4096x1_0_1 (broadcastInDim S1x1 ![1] bcast_S1_S1x1_1 (constantI S1 32 7#32))))) (constantI S_ 1 1#1) reducesTo_S4096x1_S4096_d1 h_S_)) (Host.gather gather_S8x32_S4096x1_S4096x32_1_0_n_n_0_1_132 A.a4 I) (broadcastInDim S4096x32 ![] bcast_S_S4096x32 (constant (F := Ideal) S_ .f32 0x7FC00000#32))) : (⟨S4096x32, .f32⟩ : BufTy).Contents (Elt Ideal))⟩, ⟨S4096x8, ((sitofp (F := Ideal) .f32 ((concatenate S4096x8 1 [⟨S4096x1, ((broadcastInDim S4096x1 ![0] bcast_S4096_S4096x1_0 (andi (Host.shrsi A.a1 (broadcastInDim S4096 ![] bcast_S_S4096 (constantI S_ 32 0#32))) (broadcastInDim S4096 ![] bcast_S_S4096 (constantI S_ 32 1#32)))) : (⟨S4096x1, .i32⟩ : BufTy).Contents (Elt Ideal))⟩, ⟨S4096x1, ((broadcastInDim S4096x1 ![0] bcast_S4096_S4096x1_0 (andi (Host.shrsi A.a1 (broadcastInDim S4096 ![] bcast_S_S4096 (constantI S_ 32 1#32))) (broadcastInDim S4096 ![] bcast_S_S4096 (constantI S_ 32 1#32)))) : (⟨S4096x1, .i32⟩ : BufTy).Contents (Elt Ideal))⟩, ⟨S4096x1, ((broadcastInDim S4096x1 ![0] bcast_S4096_S4096x1_0 (andi (Host.shrsi A.a1 (broadcastInDim S4096 ![] bcast_S_S4096 (constantI S_ 32 2#32))) (broadcastInDim S4096 ![] bcast_S_S4096 (constantI S_ 32 1#32)))) : (⟨S4096x1, .i32⟩ : BufTy).Contents (Elt Ideal))⟩, ⟨S4096x1, ((broadcastInDim S4096x1 ![0] bcast_S4096_S4096x1_0 (andi (Host.shrsi A.a1 (broadcastInDim S4096 ![] bcast_S_S4096 (constantI S_ 32 3#32))) (broadcastInDim S4096 ![] bcast_S_S4096 (constantI S_ 32 1#32)))) : (⟨S4096x1, .i32⟩ : BufTy).Contents (Elt Ideal))⟩, ⟨S4096x1, ((broadcastInDim S4096x1 ![0] bcast_S4096_S4096x1_0 (andi (Host.shrsi A.a1 (broadcastInDim S4096 ![] bcast_S_S4096 (constantI S_ 32 4#32))) (broadcastInDim S4096 ![] bcast_S_S4096 (constantI S_ 32 1#32)))) : (⟨S4096x1, .i32⟩ : BufTy).Contents (Elt Ideal))⟩, ⟨S4096x1, ((broadcastInDim S4096x1 ![0] bcast_S4096_S4096x1_0 (andi (Host.shrsi A.a1 (broadcastInDim S4096 ![] bcast_S_S4096 (constantI S_ 32 5#32))) (broadcastInDim S4096 ![] bcast_S_S4096 (constantI S_ 32 1#32)))) : (⟨S4096x1, .i32⟩ : BufTy).Contents (Elt Ideal))⟩, ⟨S4096x1, ((broadcastInDim S4096x1 ![0] bcast_S4096_S4096x1_0 (andi (Host.shrsi A.a1 (broadcastInDim S4096 ![] bcast_S_S4096 (constantI S_ 32 6#32))) (broadcastInDim S4096 ![] bcast_S_S4096 (constantI S_ 32 1#32)))) : (⟨S4096x1, .i32⟩ : BufTy).Contents (Elt Ideal))⟩, ⟨S4096x1, ((broadcastInDim S4096x1 ![0] bcast_S4096_S4096x1_0 (andi (Host.shrsi A.a1 (broadcastInDim S4096 ![] bcast_S_S4096 (constantI S_ 32 7#32))) (broadcastInDim S4096 ![] bcast_S_S4096 (constantI S_ 32 1#32)))) : (⟨S4096x1, .i32⟩ : BufTy).Contents (Elt Ideal))⟩] concatenates_S4096x1_S4096x1_S4096x1_S4096x1_S4096x1_S4096x1_S4096x1_S4096x1_S4096x8_d1 : (⟨S4096x8, .i32⟩ : BufTy).Contents (Elt Ideal)))) : (⟨S4096x8, .f32⟩ : BufTy).Contents (Elt Ideal))⟩, ⟨S4096x8, ((sitofp (F := Ideal) .f32 ((concatenate S4096x8 1 [⟨S4096x1, ((broadcastInDim S4096x1 ![0] bcast_S4096_S4096x1_0 (andi (Host.shrsi A.a2 (broadcastInDim S4096 ![] bcast_S_S4096 (constantI S_ 32 0#32))) (broadcastInDim S4096 ![] bcast_S_S4096 (constantI S_ 32 1#32)))) : (⟨S4096x1, .i32⟩ : BufTy).Contents (Elt Ideal))⟩, ⟨S4096x1, ((broadcastInDim S4096x1 ![0] bcast_S4096_S4096x1_0 (andi (Host.shrsi A.a2 (broadcastInDim S4096 ![] bcast_S_S4096 (constantI S_ 32 1#32))) (broadcastInDim S4096 ![] bcast_S_S4096 (constantI S_ 32 1#32)))) : (⟨S4096x1, .i32⟩ : BufTy).Contents (Elt Ideal))⟩, ⟨S4096x1, ((broadcastInDim S4096x1 ![0] bcast_S4096_S4096x1_0 (andi (Host.shrsi A.a2 (broadcastInDim S4096 ![] bcast_S_S4096 (constantI S_ 32 2#32))) (broadcastInDim S4096 ![] bcast_S_S4096 (constantI S_ 32 1#32)))) : (⟨S4096x1, .i32⟩ : BufTy).Contents (Elt Ideal))⟩, ⟨S4096x1, ((broadcastInDim S4096x1 ![0] bcast_S4096_S4096x1_0 (andi (Host.shrsi A.a2 (broadcastInDim S4096 ![] bcast_S_S4096 (constantI S_ 32 3#32))) (broadcastInDim S4096 ![] bcast_S_S4096 (constantI S_ 32 1#32)))) : (⟨S4096x1, .i32⟩ : BufTy).Contents (Elt Ideal))⟩, ⟨S4096x1, ((broadcastInDim S4096x1 ![0] bcast_S4096_S4096x1_0 (andi (Host.shrsi A.a2 (broadcastInDim S4096 ![] bcast_S_S4096 (constantI S_ 32 4#32))) (broadcastInDim S4096 ![] bcast_S_S4096 (constantI S_ 32 1#32)))) : (⟨S4096x1, .i32⟩ : BufTy).Contents (Elt Ideal))⟩, ⟨S4096x1, ((broadcastInDim S4096x1 ![0] bcast_S4096_S4096x1_0 (andi (Host.shrsi A.a2 (broadcastInDim S4096 ![] bcast_S_S4096 (constantI S_ 32 5#32))) (broadcastInDim S4096 ![] bcast_S_S4096 (constantI S_ 32 1#32)))) : (⟨S4096x1, .i32⟩ : BufTy).Contents (Elt Ideal))⟩, ⟨S4096x1, ((broadcastInDim S4096x1 ![0] bcast_S4096_S4096x1_0 (andi (Host.shrsi A.a2 (broadcastInDim S4096 ![] bcast_S_S4096 (constantI S_ 32 6#32))) (broadcastInDim S4096 ![] bcast_S_S4096 (constantI S_ 32 1#32)))) : (⟨S4096x1, .i32⟩ : BufTy).Contents (Elt Ideal))⟩, ⟨S4096x1, ((broadcastInDim S4096x1 ![0] bcast_S4096_S4096x1_0 (andi (Host.shrsi A.a2 (broadcastInDim S4096 ![] bcast_S_S4096 (constantI S_ 32 7#32))) (broadcastInDim S4096 ![] bcast_S_S4096 (constantI S_ 32 1#32)))) : (⟨S4096x1, .i32⟩ : BufTy).Contents (Elt Ideal))⟩] concatenates_S4096x1_S4096x1_S4096x1_S4096x1_S4096x1_S4096x1_S4096x1_S4096x1_S4096x8_d1 : (⟨S4096x8, .i32⟩ : BufTy).Contents (Elt Ideal)))) : (⟨S4096x8, .f32⟩ : BufTy).Contents (Elt Ideal))⟩, ⟨S4096x1, ((sitofp (F := Ideal) .f32 (broadcastInDim S4096x1 ![0] bcast_S4096_S4096x1_0 A.a3)) : (⟨S4096x1, .f32⟩ : BufTy).Contents (Elt Ideal))⟩] concatenates_S4096x32_S4096x8_S4096x8_S4096x1_S4096x49_d1 : (⟨S4096x49, .f32⟩ : BufTy).Contents (Elt Ideal))

/-- The input projection. -/
def refLin (A : Args) (X : FVec Ideal S4096x49 .f32) : FVec Ideal S4096x256 .f32 :=
  addf (Host.dotGeneral dot_S4096x49_S49x256_S4096x256_1_0_0_1_n_n none X A.a5) (broadcastInDim S4096x256 ![0, 1] bcast_S1x256_S4096x256_0_1 (broadcastInDim S1x256 ![1] bcast_S256_S1x256_1 A.a6))

/-- The residual mixing layer. -/
def refMix (A : Args) (X : FVec Ideal S4096x256 .f32) : FVec Ideal S4096x256 .f32 :=
  addf X (addf (Host.dotGeneral dot_S4096x256_S256x256_S4096x256_1_0_0_1_n_n none (Host.tanh X) A.a7) (broadcastInDim S4096x256 ![0, 1] bcast_S1x256_S4096x256_0_1 (broadcastInDim S1x256 ![1] bcast_S256_S1x256_1 A.a8)))

/-- The router logits. -/
def refLogit (A : Args) (X : FVec Ideal S4096x256 .f32) : FVec Ideal S4096x16 .f32 :=
  Host.dotGeneral dot_S4096x256_S256x16_S4096x16_1_0_0_1_n_n none X A.a9

/-- The exponentials of the logits less their row maximum. -/
def refExp (X : FVec Ideal S4096x16 .f32) : FVec Ideal S4096x16 .f32 :=
  Host.exp (subf X (broadcastInDim S4096x16 ![0, 1] bcast_S4096x1_S4096x16_0_1 (broadcastInDim S4096x1 ![0] bcast_S4096_S4096x1_0 (maximumf (broadcastInDim S4096 ![] bcast_S_S4096 (constant (F := Ideal) S_ .f32 0xFF800000#32)) (Host.reduce FloatOps.maximumf X (constant (F := Ideal) S_ .f32 0xFF800000#32) reducesTo_S4096x16_S4096_d1 h_S_)))))

/-- The exponentials over their row sum. -/
def refSoft (E : FVec Ideal S4096x16 .f32) : FVec Ideal S4096x16 .f32 :=
  Host.divf E (broadcastInDim S4096x16 ![0, 1] bcast_S4096x1_S4096x16_0_1 (broadcastInDim S4096x1 ![0] bcast_S4096_S4096x1_0 (Host.reduceAdd E (constant (F := Ideal) S_ .f32 0x00000000#32) reducesTo_S4096x16_S4096_d1 h_S_)))

/-- The normalised top values written at their positions. -/
def refGates (W : FVec Ideal S4096x4 .f32) (I : IVec S4096x4 32) : FVec Ideal S4096x16 .f32 :=
  Host.scatter scatter_S4096x16_S4096x4x2_S4096x4_n_01_01_2 (fun _ b => b) (broadcastInDim S4096x16 ![] bcast_S_S4096x16 (constant (F := Ideal) S_ .f32 0x00000000#32)) (concatenate S4096x4x2 2 [⟨S4096x4x1, (broadcastInDim S4096x4x1 ![0, 1] bcast_S4096x4_S4096x4x1_0_1 (broadcastInDim S4096x4 ![0, 1] bcast_S4096x1_S4096x4_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩, ⟨S4096x4x1, (broadcastInDim S4096x4x1 ![0, 1] bcast_S4096x4_S4096x4x1_0_1 (select (cmpi .slt I (broadcastInDim S4096x4 ![] bcast_S_S4096x4 (constantI S_ 32 0#32))) (addi I (broadcastInDim S4096x4 ![] bcast_S_S4096x4 (constantI S_ 32 16#32))) I))⟩] concatenates_S4096x4x1_S4096x4x1_S4096x4x2_d2) (Host.divf W (broadcastInDim S4096x4 ![0, 1] bcast_S4096x1_S4096x4_0_1 (addf (broadcastInDim S4096x1 ![0] bcast_S4096_S4096x1_0 (Host.reduceAdd W (constant (F := Ideal) S_ .f32 0x00000000#32) reducesTo_S4096x4_S4096_d1 h_S_)) (broadcastInDim S4096x1 ![] bcast_S_S4096x1 (constant (F := Ideal) S_ .f32 0x3089705F#32)))))

/-- The result from the expert mix. -/
def refOut (A : Args) (X : FVec Ideal S4096x256 .f32) (G : FVec Ideal S4096x16 .f32) : FVec Ideal S4096x8 .f32 :=
  Host.divf (broadcastInDim S4096x8 ![] bcast_S_S4096x8 (constant (F := Ideal) S_ .f32 0x3F800000#32)) (addf (broadcastInDim S4096x8 ![] bcast_S_S4096x8 (constant (F := Ideal) S_ .f32 0x3F800000#32)) (Host.exp (Host.negf (addf (Host.dotGeneral dot_S4096x64_S64x8_S4096x8_1_0_0_1_n_n none (maximumf (addf (Host.dotGeneral dot_S4096x256_S256x64_S4096x64_1_0_0_1_n_n none (Host.dotGeneral dot_S4096x16_S4096x16x256_S4096x256_1_1_n_2_0_0 none G (addf (transpose S4096x16x256 [2, 0, 1] (Host.dotGeneral dot_S16x512x256_S4096x16x512_S16x256x4096_1_2_2_0_0_1 none A.a12 (maximumf (addf (Host.dotGeneral dot_S4096x256_S16x256x512_S4096x16x512_1_1_0_02_n_n none X A.a10) (broadcastInDim S4096x16x512 ![0, 1, 2] bcast_S1x16x512_S4096x16x512_0_1_2 (broadcastInDim S1x16x512 ![1, 2] bcast_S16x512_S1x16x512_1_2 A.a11))) (broadcastInDim S4096x16x512 ![] bcast_S_S4096x16x512 (constant (F := Ideal) S_ .f32 0x00000000#32)))) transposes_S16x256x4096_S4096x16x256_2_0_1) (broadcastInDim S4096x16x256 ![0, 1, 2] bcast_S1x16x256_S4096x16x256_0_1_2 (broadcastInDim S1x16x256 ![1, 2] bcast_S16x256_S1x16x256_1_2 A.a13)))) A.a14) (broadcastInDim S4096x64 ![0, 1] bcast_S1x64_S4096x64_0_1 (broadcastInDim S1x64 ![1] bcast_S64_S1x64_1 A.a15))) (broadcastInDim S4096x64 ![] bcast_S_S4096x64 (constant (F := Ideal) S_ .f32 0x00000000#32))) A.a16) (broadcastInDim S4096x8 ![0, 1] bcast_S1x8_S4096x8_0_1 (broadcastInDim S1x8 ![1] bcast_S8_S1x8_1 A.a17))))))

/-- The auxiliary loss. -/
def refAux (T : FVec Ideal S16x256x512 .f32) (U : FVec Ideal S16x512x256 .f32) (P G : FVec Ideal S4096x16 .f32) : FVec Ideal S1x1 .f32 :=
  shapeCast S1x1 (addf (addf (mulf (constant (F := Ideal) S_ .f32 0x3C23D70A#32) (addf (Host.divf (Host.reduceAdd (mulf T (subf (broadcastInDim S16x256x512 ![] bcast_S_S16x256x512 (constant (F := Ideal) S_ .f32 0x3F800000#32)) T)) (constant (F := Ideal) S_ .f32 0x00000000#32) reducesTo_S16x256x512_S_d0_1_2 h_S_) (constant (F := Ideal) S_ .f32 0x4A000000#32)) (Host.divf (Host.reduceAdd (mulf U (subf (broadcastInDim S16x512x256 ![] bcast_S_S16x512x256 (constant (F := Ideal) S_ .f32 0x3F800000#32)) U)) (constant (F := Ideal) S_ .f32 0x00000000#32) reducesTo_S16x512x256_S_d0_1_2 h_S_) (constant (F := Ideal) S_ .f32 0x4A000000#32)))) (mulf (constant (F := Ideal) S_ .f32 0x3BA3D70A#32) (Host.divf (Host.reduceAdd (Host.reduceAdd (mulf P (subf (broadcastInDim S4096x16 ![] bcast_S_S4096x16 (constant (F := Ideal) S_ .f32 0x3F800000#32)) P)) (constant (F := Ideal) S_ .f32 0x00000000#32) reducesTo_S4096x16_S4096_d1 h_S_) (constant (F := Ideal) S_ .f32 0x00000000#32) reducesTo_S4096_S_d0 h_S_) (constant (F := Ideal) S_ .f32 0x45800000#32)))) (mulf (mulf (constant (F := Ideal) S_ .f32 0x3C23D70A#32) (constant (F := Ideal) S_ .f32 0x41800000#32)) (Host.reduceAdd (mulf (Host.divf (Host.reduceAdd P (constant (F := Ideal) S_ .f32 0x00000000#32) reducesTo_S4096x16_S16_d0 h_S_) (broadcastInDim S16 ![] bcast_S_S16 (constant (F := Ideal) S_ .f32 0x45800000#32))) (Host.divf (Host.reduceAdd G (constant (F := Ideal) S_ .f32 0x00000000#32) reducesTo_S4096x16_S16_d0 h_S_) (broadcastInDim S16 ![] bcast_S_S16 (constant (F := Ideal) S_ .f32 0x45800000#32)))) (constant (F := Ideal) S_ .f32 0x00000000#32) reducesTo_S16_S_d0 h_S_))) shapeCasts_S_S1x1

/-- The reference's arguments as arrays. -/
def argsR (V0 : Valuation τ sig (Elt Ideal)) : Args where
  a0 := V0 (Proc.devRef .tc main_arg0)
  a1 := V0 (Proc.devRef .tc main_arg1)
  a2 := V0 (Proc.devRef .tc main_arg2)
  a3 := V0 (Proc.devRef .tc main_arg3)
  a4 := V0 (Proc.devRef .tc main_arg4)
  a5 := V0 (Proc.devRef .tc main_arg5)
  a6 := V0 (Proc.devRef .tc main_arg6)
  a7 := V0 (Proc.devRef .tc main_arg7)
  a8 := V0 (Proc.devRef .tc main_arg8)
  a9 := V0 (Proc.devRef .tc main_arg9)
  a10 := V0 (Proc.devRef .tc main_arg10)
  a11 := V0 (Proc.devRef .tc main_arg11)
  a12 := V0 (Proc.devRef .tc main_arg12)
  a13 := V0 (Proc.devRef .tc main_arg13)
  a14 := V0 (Proc.devRef .tc main_arg14)
  a15 := V0 (Proc.devRef .tc main_arg15)
  a16 := V0 (Proc.devRef .tc main_arg16)
  a17 := V0 (Proc.devRef .tc main_arg17)

/-- The four largest of each row of the probabilities, and their positions. -/
def refTop (P : FVec Ideal S4096x16 .f32) : FVec Ideal S4096x4 .f32 × IVec S4096x4 32 :=
  Host.topK S4096x4 1 (FloatOps.cmpfTotal (F := Ideal) (φ := .f32) .gt) P sliceFits_S4096x16_S4096x4

/-- The mixing layer, the probabilities and the gates from the arguments. -/
def refX (A : Args) : FVec Ideal S4096x256 .f32 := refMix A (refLin A (refTok A (refOp A)))
def refP (A : Args) : FVec Ideal S4096x16 .f32 := refSoft (refExp (refLogit A (refX A)))
def refG (A : Args) : FVec Ideal S4096x16 .f32 := refGates (refTop (refP A)).1 (refTop (refP A)).2

/-- The run's gathered rows are the operation embeddings. -/
theorem op_eq (V0 : Valuation τ sig (Elt Ideal)) : res_main_call0_v5 V0 = refOp (argsR V0) := rfl
/-- The run's concatenation is the token. -/
theorem v87_eq (V0 : Valuation τ sig (Elt Ideal)) : res_main_v87 V0 = refTok (argsR V0) (refOp (argsR V0)) := by
  rw [← op_eq]; rfl
/-- The run's input projection. -/
theorem v91_eq (V0 : Valuation τ sig (Elt Ideal)) : res_main_v91 V0 = refLin (argsR V0) (refTok (argsR V0) (refOp (argsR V0))) := by
  rw [← v87_eq]; rfl
/-- The run's mixed activation. -/
theorem v97_eq (V0 : Valuation τ sig (Elt Ideal)) : res_main_v97 V0 = refX (argsR V0) := by
  unfold refX; rw [← v91_eq]; rfl
/-- The run's logits. -/
theorem v98_eq (V0 : Valuation τ sig (Elt Ideal)) : res_main_v98 V0 = refLogit (argsR V0) (refX (argsR V0)) := by
  rw [← v97_eq]; rfl
/-- The run's exponentials of the shifted logits. -/
theorem v105_eq (V0 : Valuation τ sig (Elt Ideal)) : res_main_v105 V0 = refExp (refLogit (argsR V0) (refX (argsR V0))) := by
  rw [← v98_eq]; rfl
/-- The run's probabilities. -/
theorem v109_eq (V0 : Valuation τ sig (Elt Ideal)) : res_main_v109 V0 = refP (argsR V0) := by
  unfold refP; rw [← v105_eq]; rfl
/-- The run's gates. -/
theorem v133_eq (V0 : Valuation τ sig (Elt Ideal)) : res_main_v133 V0 = refG (argsR V0) := by
  unfold refG; rw [← v109_eq]; rfl

end Cert.Val

end
-- ==== Proof.RefAt.lean ====
/- The reference's terms read at an index: they are the layer's values. -/
module

public import proofs.«01_k».proof.Proof.RefTerm
public import Idealize.ShloMosaic.Lib.Routing.OpsSet
public import Idealize.ShloMosaic.Lib.Routing.OpsPair
public import Idealize.ShloMosaic.Lib.Routing.Ops

@[expose] public section

set_option maxRecDepth 16384

noncomputable section

namespace Cert.Val

open Idealize.ShloMosaic Cert.ReferenceIdeal Cert.ReferenceIdeal.Gen Cert.ReferenceIdeal.Value

/-- A sum over the 49 token features is the sum of its four parts. -/
theorem sum49 (f : Fin 49 → EReal) :
    (∑ k, f k) = (∑ k : Fin 32, f ⟨k.val, by omega⟩) + (∑ k : Fin 8, f ⟨32 + k.val, by omega⟩)
      + (∑ k : Fin 8, f ⟨40 + k.val, by omega⟩) + f 48 := by
  rw [Fin.sum_univ_castSucc]
  congr 1
  have h := Fin.sum_univ_add (a := 40) (b := 8) (fun k : Fin (40 + 8) => f k.castSucc)
  have h2 := Fin.sum_univ_add (a := 32) (b := 8) (fun k : Fin (32 + 8) => f (Fin.castAdd 8 k).castSucc)
  rw [h2] at h
  exact h

/-- The argument's operator indices lie in the table. -/
def Args.InRange (A : Args) : Prop := ∀ r : Fin 4096, (A.a0 (ix1 r)).toNat < 8

/-- The operator column read at a row. -/
theorem refOp_at (A : Args) (hA : A.InRange) (r : Fin 4096) (d : Fin 1) :
    refOp A (ix2 r d) = BitVec.ofNat 32 (A.op r).val := by
  have h1 : refOp A (ix2 r d) = Scalar.select (IntOp.cmpi .slt (A.a0 (ix1 r)) 0#32) (IntOp.addi (A.a0 (ix1 r)) 8#32) (A.a0 (ix1 r)) := by
    pointwise [refOp]
  rw [h1, Routing.wrap_of_lt _ _ (lt_trans (hA r) (by norm_num))]
  refine BitVec.eq_of_toNat_eq ?_
  have := hA r
  simp only [Args.op, BitVec.toNat_ofNat]
  omega

/-- A word below eight passes both bounds of the table. -/
theorem word_in (k : Fin 8) : IntOp.andi (IntOp.cmpi .sge (BitVec.ofNat 32 k.val) 0#32) (IntOp.cmpi .sle (BitVec.ofNat 32 k.val) 7#32) = 1#1 := by
  revert k; decide

/-- The embedding columns of the token row. -/
theorem refTok_emb (A : Args) (I : IVec S4096x1 32) (r : Fin 4096) (o : Fin 8) (hI : I (ix2 r 0) = BitVec.ofNat 32 o.val)
    (k : Fin 32) : refTok A I (ix2 r (⟨k.val, by omega⟩ : Fin 49)) = A.a4 (ix2 o k) := by
  unfold refTok
  pointwise
  have h : ∀ x : Fin 1, I (ix2 r x) = BitVec.ofNat 32 o.val := fun x => by rw [Subsingleton.elim x 0]; exact hI
  simp only [h, word_in]
  have hf : Finset.fold IntOp.andi (1#1) (fun _ : Fin 1 => 1#1) Finset.univ = 1#1 := by decide
  rw [hf]
  exact Routing.gather_row gather_S8x32_S4096x1_S4096x32_1_0_n_n_0_1_132 rfl rfl rfl rfl rfl A.a4 I r k o hI (by norm_num)

/-- The first operand's bits. -/
theorem refTok_a (A : Args) (I : IVec S4096x1 32) (r : Fin 4096) (k : Fin 8) :
    refTok A I (ix2 r (⟨32 + k.val, by omega⟩ : Fin 49)) = bit (A.a1 (ix1 r)) k := by
  fin_cases k <;> · unfold refTok; pointwise; rfl

/-- The second operand's bits. -/
theorem refTok_b (A : Args) (I : IVec S4096x1 32) (r : Fin 4096) (k : Fin 8) :
    refTok A I (ix2 r (⟨40 + k.val, by omega⟩ : Fin 49)) = bit (A.a2 (ix1 r)) k := by
  fin_cases k <;> · unfold refTok; pointwise; rfl

/-- The carry. -/
theorem refTok_c (A : Args) (I : IVec S4096x1 32) (r : Fin 4096) :
    refTok A I (ix2 r (48 : Fin 49)) = FloatOps.sitofp (F := Ideal) .f32 (A.a3 (ix1 r)) := by
  unfold refTok; pointwise

/-- The input projection read at an index. -/
theorem refLin_val (A : Args) (hA : A.InRange) (r : Fin 4096) (d : Fin 256) :
    refLin A (refTok A (refOp A)) (ix2 r d) = A.lin r d := by
  have h : ∀ X : FVec Ideal S4096x49 .f32, refLin A X (ix2 r d) = ∑ k : Fin 49, X (ix2 r k) * A.a5 (ix2 k d) + A.a6 (ix1 d) :=
    fun X => by pointwise [refLin]
  rw [h, sum49]
  unfold Args.lin
  simp only [refTok_a, refTok_b, refTok_c, refTok_emb A (refOp A) r (A.op r) (refOp_at A hA r 0)]

/-- The mixing layer read at an index. -/
theorem refX_val (A : Args) (hA : A.InRange) (r : Fin 4096) (d : Fin 256) : refX A (ix2 r d) = A.x r d := by
  have h : ∀ X : FVec Ideal S4096x256 .f32, refMix A X (ix2 r d)
      = X (ix2 r d) + (∑ k : Fin 256, Ideal.tanh (X (ix2 r k)) * A.a7 (ix2 k d) + A.a8 (ix1 d)) := fun X => by pointwise [refMix]
  unfold refX
  rw [h]
  simp only [refLin_val A hA]
  exact (add_assoc _ _ _).symm

/-- The logits read at an index. -/
theorem refLogit_val (A : Args) (hA : A.InRange) (r : Fin 4096) (e : Fin 16) : refLogit A (refX A) (ix2 r e) = A.logit r e := by
  have h : ∀ X : FVec Ideal S4096x256 .f32, refLogit A X (ix2 r e) = ∑ k : Fin 256, X (ix2 r k) * A.a9 (ix2 k e) :=
    fun X => by pointwise [refLogit]
  rw [h]
  simp only [refX_val A hA]
  rfl

/-- The probabilities read at an index. -/
theorem refP_val (A : Args) (hA : A.InRange) (r : Fin 4096) (e : Fin 16) : refP A (ix2 r e) = A.p r e := by
  have h : ∀ X : FVec Ideal S4096x16 .f32, refSoft X (ix2 r e) = Ideal.div (X (ix2 r e)) (∑ x, X (ix2 r x)) :=
    fun X => by pointwise [refSoft]
  have h2 : ∀ (X : FVec Ideal S4096x16 .f32) (e : Fin 16), refExp X (ix2 r e)
      = Ideal.exp (X (ix2 r e) - max (Ideal.ofBits .f32 4286578688#32)
          (Finset.fold max (Ideal.ofBits .f32 4286578688#32) (fun x => X (ix2 r x)) Finset.univ)) :=
    fun X e => by pointwise [refExp]
  unfold refP
  rw [h]
  simp only [h2, refLogit_val A hA, negInf, max_bot_left]
  rfl

/-- The comparison of the reference's sort, as a truth value. -/
theorem gt_word (a b : EReal) : (FloatOps.cmpfTotal (F := Ideal) (φ := .f32) .gt a b == 1#1) = decide (b < a) := by
  show (BitVec.ofBool (decide (b < a)) == 1#1) = decide (b < a)
  cases decide (b < a) <;> rfl

/-- An index of the probabilities moved along its row. -/
theorem along_row (r : Fin 4096) (a k : Fin 16) :
    Shape.Idx.along (s := S4096x16) (ix2 r a) 1 k = ix2 r k := by
  funext x
  refine Fin.cases ?_ (fun y => ?_) x
  · rfl
  · obtain rfl : y = 0 := Subsingleton.elim _ _
    rfl

/-- The sorted row's positions. -/
theorem sorted_row (P : FVec Ideal S4096x16 .f32) (r : Fin 4096) (a : Fin 16) :
    (fun k k' : Fin 16 => FloatOps.cmpfTotal (F := Ideal) (φ := .f32) .gt
        (P (Shape.Idx.along (s := S4096x16) (ix2 r a) 1 k))
        (P (Shape.Idx.along (s := S4096x16) (ix2 r a) 1 k')) == 1#1)
      = gtB fun e => P (ix2 r e) := by
  funext k k'
  rw [along_row, along_row, gt_word]
  rfl

/-- The reference's top values and positions, read at an index. -/
theorem refTop_val (P : FVec Ideal S4096x16 .f32) (r : Fin 4096) (a : Fin 4) :
    (refTop P).1 (ix2 r a) = P (ix2 r (srt (fun e => P (ix2 r e)) a))
      ∧ (refTop P).2 (ix2 r a) = BitVec.ofNat 32 (srt (fun e => P (ix2 r e)) a).val := by
  have hs := sorted_row P r (a.castLE (by decide))
  unfold srt
  rw [← hs]
  constructor
  · unfold refTop
    pointwise [Host.topK, Host.sort2]
    exact congrArg P (along_row r _ _)
  · unfold refTop
    pointwise [Host.topK, Host.sort2]
    rw [along_row]
    rfl

/-- The index words of the reference's scatter: the row and the position. -/
def refIdx (I : IVec S4096x4 32) : IVec S4096x4x2 32 :=
  concatenate S4096x4x2 2 [⟨S4096x4x1, (broadcastInDim S4096x4x1 ![0, 1] bcast_S4096x4_S4096x4x1_0_1 (broadcastInDim S4096x4 ![0, 1] bcast_S4096x1_S4096x4_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩, ⟨S4096x4x1, (broadcastInDim S4096x4x1 ![0, 1] bcast_S4096x4_S4096x4x1_0_1 (select (cmpi .slt I (broadcastInDim S4096x4 ![] bcast_S_S4096x4 (constantI S_ 32 0#32))) (addi I (broadcastInDim S4096x4 ![] bcast_S_S4096x4 (constantI S_ 32 16#32))) I))⟩] concatenates_S4096x4x1_S4096x4x1_S4096x4x2_d2

/-- The row word. -/
theorem refIdx_row (I : IVec S4096x4 32) (r : Fin 4096) (a : Fin 4) : refIdx I (ix3 r a 0) = BitVec.ofNat 32 r.val := by
  have h : refIdx I (ix3 r a 0) = Scalar.select (IntOp.cmpi .slt (BitVec.ofNat 32 r.val) 0#32)
      (IntOp.addi (BitVec.ofNat 32 r.val) 4096#32) (BitVec.ofNat 32 r.val) := by
    pointwise [refIdx]
  rw [h, Routing.wrap_of_lt]
  simp only [BitVec.toNat_ofNat]
  have := r.isLt
  omega

/-- The position word. -/
theorem refIdx_pos (I : IVec S4096x4 32) (r : Fin 4096) (a : Fin 4) (e : Fin 16) (hI : I (ix2 r a) = BitVec.ofNat 32 e.val) :
    refIdx I (ix3 r a 1) = BitVec.ofNat 32 e.val := by
  have h : refIdx I (ix3 r a 1) = Scalar.select (IntOp.cmpi .slt (I (ix2 r a)) 0#32)
      (IntOp.addi (I (ix2 r a)) 16#32) (I (ix2 r a)) := by
    pointwise [refIdx]
  rw [h, hI, Routing.wrap_of_lt]
  simp only [BitVec.toNat_ofNat]
  have := e.isLt
  omega

/-- A small word read signed. -/
theorem toInt_small (n : Nat) (h : n < 2 ^ 31) : (BitVec.ofNat 32 n).toInt = (n : Int) := by
  rw [BitVec.toInt_eq_toNat_cond, BitVec.toNat_ofNat]
  rw [Nat.mod_eq_of_lt (by omega)]
  split
  · rfl
  · omega

/-- Where the reference's updates land. -/
theorem lands (I : IVec S4096x4 32) (τ : Fin 4096 → Fin 4 → Fin 16) (hI : ∀ r a, I (ix2 r a) = BitVec.ofNat 32 (τ r a).val)
    (r' : Fin 4096) (a : Fin 4) (r : Fin 4096) (e : Fin 16) :
    scatter_S4096x16_S4096x4x2_S4096x4_n_01_01_2.resultIdx? (ix2 r' a) (refIdx I) = some (ix2 r e) ↔ r' = r ∧ τ r' a = e := by
  refine (Routing.scatter_lands2 scatter_S4096x16_S4096x4x2_S4096x4_n_01_01_2 rfl rfl rfl (refIdx I) r' a r e).trans ?_
  have h0 := refIdx_row I r' a
  have h1 := refIdx_pos I r' a (τ r' a) (hI r' a)
  refine Iff.trans (b := (refIdx I (ix3 r' a 0)).toInt = r.val ∧ (refIdx I (ix3 r' a 1)).toInt = e.val) Iff.rfl ?_
  rw [h0, h1, toInt_small _ (by have := r'.isLt; omega), toInt_small _ (by have := (τ r' a).isLt; omega)]
  constructor
  · rintro ⟨p, q⟩; exact ⟨Fin.ext (by exact_mod_cast p), Fin.ext (by exact_mod_cast q)⟩
  · rintro ⟨p, q⟩; rw [p] at q ⊢; rw [q]; exact ⟨rfl, rfl⟩

/-- The normalised top values. -/
def refNorm (W : FVec Ideal S4096x4 .f32) : FVec Ideal S4096x4 .f32 :=
  Host.divf W (broadcastInDim S4096x4 ![0, 1] bcast_S4096x1_S4096x4_0_1 (addf (broadcastInDim S4096x1 ![0] bcast_S4096_S4096x1_0 (Host.reduceAdd W (constant (F := Ideal) S_ .f32 0x00000000#32) reducesTo_S4096x4_S4096_d1 h_S_)) (broadcastInDim S4096x1 ![] bcast_S_S4096x1 (constant (F := Ideal) S_ .f32 0x3089705F#32))))

/-- The four picked values, each over their sum and the small constant. -/
theorem refNorm_at (W : FVec Ideal S4096x4 .f32) (r : Fin 4096) (a : Fin 4) :
    refNorm W (ix2 r a) = Ideal.div (W (ix2 r a)) ((∑ b, W (ix2 r b)) + eps) := by
  pointwise [refNorm]
  rfl

/-- The gates read at an index. -/
theorem refG_val (A : Args) (hA : A.InRange) (r : Fin 4096) (e : Fin 16) : refG A (ix2 r e) = A.g r e := by
  have hrow : (fun e => refP A (ix2 r e)) = A.p r := funext fun e => refP_val A hA r e
  have hP : ∀ r, (fun e => refP A (ix2 r e)) = A.p r := fun r => funext fun e => refP_val A hA r e
  have h1 : ∀ r a, (refTop (refP A)).1 (ix2 r a) = A.p r (srt (A.p r) a) := fun r a => by
    rw [(refTop_val (refP A) r a).1, hP r, refP_val A hA]
  have h2 : ∀ r a, (refTop (refP A)).2 (ix2 r a) = BitVec.ofNat 32 (srt (A.p r) a).val := fun r a => by
    rw [(refTop_val (refP A) r a).2, hP r]
  have hl := lands (refTop (refP A)).2 (fun r a => srt (A.p r) a) h2
  have hu : ∀ r a, refNorm (refTop (refP A)).1 (ix2 r a) = topGate (A.p r) (srt (A.p r)) a := fun r a => by
    rw [refNorm_at]
    simp only [h1]
    rfl
  have hG : refG A = Host.scatter scatter_S4096x16_S4096x4x2_S4096x4_n_01_01_2 (fun _ b => b)
      (broadcastInDim S4096x16 ![] bcast_S_S4096x16 (constant (F := Ideal) S_ .f32 0x00000000#32))
      (refIdx (refTop (refP A)).2) (refNorm (refTop (refP A)).1) := rfl
  rw [hG]
  by_cases he : ∃ a, srt (A.p r) a = e
  · obtain ⟨a, ha⟩ := he
    refine Routing.scatter_set_hit _ _ _ _ _ _ (fun k hk => ?_) (ix2 r a) ((hl r a r e).2 ⟨rfl, ha⟩)
    obtain ⟨r', a', rfl⟩ : ∃ (r' : Fin 4096) (a' : Fin 4), k = ix2 r' a' := ⟨k 0, k 1, eq_ix2 k⟩
    obtain ⟨rfl, rfl⟩ := (hl r' a' r e).1 hk
    rw [hu]
    exact topGate_hit (A.logit r') a'
  · rw [Routing.scatter_set_miss]
    · refine Eq.trans ?_ (topGate_miss (A.logit r) e fun a ha => he ⟨a, ha⟩).symm
      pointwise
    · intro k hk
      obtain ⟨r', a', rfl⟩ : ∃ (r' : Fin 4096) (a' : Fin 4), k = ix2 r' a' := ⟨k 0, k 1, eq_ix2 k⟩
      obtain ⟨rfl, ha⟩ := (hl r' a' r e).1 hk
      exact he ⟨a', ha⟩

end Cert.Val

end
-- ==== Proof.KerAt.lean ====
/- The kernel's router and gates read at an index: they are the layer's values. -/
module

public import proofs.«01_k».proof.Proof.Gen.KernelIdeal.Skeleton
public import proofs.«01_k».proof.Proof.RefAt
public import Idealize.ShloMosaic.Lib.Pointwise

@[expose] public section

set_option maxRecDepth 16384

noncomputable section

namespace Cert.Val

open Idealize.ShloMosaic Cert.KernelIdeal Cert.KernelIdeal.Gen

/-- A truth value widened and converted is one or zero. -/
theorem bool_num (b : Bool) : FloatOps.sitofp (F := Ideal) .f32 (BitVec.setWidth 32 (BitVec.ofBool b)) = if b then 1 else 0 := by
  cases b
  · show (((BitVec.setWidth 32 (BitVec.ofBool false)).toInt : ℝ) : EReal) = 0
    have : (BitVec.setWidth 32 (BitVec.ofBool false)).toInt = 0 := by decide
    rw [this]; simp
  · show (((BitVec.setWidth 32 (BitVec.ofBool true)).toInt : ℝ) : EReal) = 1
    have : (BitVec.setWidth 32 (BitVec.ofBool true)).toInt = 1 := by decide
    rw [this]; simp

/-- Two small positions are equal words exactly when they are equal. -/
theorem lane8 (o x : Fin 8) : IntOp.cmpi .eq (BitVec.ofNat 32 o.val) (BitVec.ofNat 32 x.val) = BitVec.ofBool (decide (o = x)) := by
  revert o x; decide

/-- A one-hot row times a column is the entry picked. -/
theorem onehot_row (f : Fin 8 → EReal) (w : BitVec 32) (o : Fin 8) (h : w = BitVec.ofNat 32 o.val) :
    (∑ x : Fin 8, FloatOps.sitofp (F := Ideal) .f32 (BitVec.setWidth 32 (IntOp.cmpi .eq w (BitVec.ofNat 32 x.val))) * f x) = f o := by
  subst h
  simp only [lane8, bool_num]
  rw [Finset.sum_eq_single o]
  · simp
  · intro b _ hb
    simp [Ne.symm hb]
  · simp

/-- A row times a one-hot column is the entry picked. -/
theorem onehot_lane (f : Fin 16 → EReal) (w : BitVec 32) (e : Fin 16) (h : w = BitVec.ofNat 32 e.val) :
    (∑ x : Fin 16, f x * FloatOps.sitofp (F := Ideal) .f32 (BitVec.setWidth 32 (IntOp.cmpi .eq (BitVec.ofNat 32 x.val) w))) = f e := by
  subst h
  simp only [lane_eq, bool_num]
  rw [Finset.sum_eq_single e]
  · simp
  · intro b _ hb
    simp [hb]
  · simp

/-- An operator below eight is the word of its position. -/
theorem op_word (A : Args) (hA : A.InRange) (r : Fin 4096) : A.a0 (ix1 r) = BitVec.ofNat 32 (A.op r).val := by
  refine BitVec.eq_of_toNat_eq ?_
  have := hA r
  simp only [Args.op, BitVec.toNat_ofNat]
  omega

/-- The three matrix parts of the input projection. -/
theorem pay11_at (A : Args) (hA : A.InRange) (v223 v230 v238 : Vec Ideal S4096x1 .i32) (v249 : Vec Ideal S8x32 .f32)
    (v250 : Vec Ideal S32x256 .f32) (v253 v256 : Vec Ideal S8x256 .f32)
    (h0 : ∀ r x, v223 (ix2 r x) = A.a0 (ix1 r)) (h1 : ∀ r x, v230 (ix2 r x) = A.a1 (ix1 r)) (h2 : ∀ r x, v238 (ix2 r x) = A.a2 (ix1 r))
    (h4 : ∀ o k, v249 (ix2 o k) = A.a4 (ix2 o k)) (h5 : ∀ (k : Fin 32) d, v250 (ix2 k d) = A.a5 (ix2 (⟨k.val, by omega⟩ : Fin 49) d))
    (h6 : ∀ (k : Fin 8) d, v253 (ix2 k d) = A.a5 (ix2 (⟨32 + k.val, by omega⟩ : Fin 49) d))
    (h7 : ∀ (k : Fin 8) d, v256 (ix2 k d) = A.a5 (ix2 (⟨40 + k.val, by omega⟩ : Fin 49) d))
    (r : Fin 4096) (d : Fin 256) :
    k0_pay11 v223 v230 v238 v249 v250 v253 v256 (ix2 r d) =
      (∑ k : Fin 32, A.a4 (ix2 (A.op r) k) * A.a5 (ix2 (⟨k.val, by omega⟩ : Fin 49) d))
    + (∑ k : Fin 8, bit (A.a1 (ix1 r)) k * A.a5 (ix2 (⟨32 + k.val, by omega⟩ : Fin 49) d))
    + (∑ k : Fin 8, bit (A.a2 (ix1 r)) k * A.a5 (ix2 (⟨40 + k.val, by omega⟩ : Fin 49) d)) := by
  have h : k0_pay11 v223 v230 v238 v249 v250 v253 v256 (ix2 r d) =
      (∑ x : Fin 8, FloatOps.sitofp (F := Ideal) .f32 (BitVec.setWidth 32 (IntOp.cmpi .eq (v223 (ix2 r 0)) (BitVec.ofNat 32 x.val)))
        * ∑ k : Fin 32, v249 (ix2 x k) * v250 (ix2 k d))
      + (∑ k : Fin 8, FloatOps.sitofp (F := Ideal) .f32 (IntOp.andi (IntOp.shrsi .vector (v230 (ix2 r 0)) (BitVec.ofNat 32 k.val)) 1#32) * v253 (ix2 k d))
      + (∑ k : Fin 8, FloatOps.sitofp (F := Ideal) .f32 (IntOp.andi (IntOp.shrsi .vector (v238 (ix2 r 0)) (BitVec.ofNat 32 k.val)) 1#32) * v256 (ix2 k d)) := by
    pointwise [k0_pay11]
  rw [h, onehot_row _ _ (A.op r) ((h0 r 0).trans (op_word A hA r))]
  simp only [h1, h2, h4, h5, h6, h7]
  rfl

/-- The residual mixing layer. -/
theorem pay12_at (A : Args) (v246 : Vec Ideal S4096x1 .i32) (v258 : FVec Ideal S4096x256 .f32) (v259 v264 : Vec Ideal S1x256 .f32)
    (v269 : Vec Ideal S256x256 .f32) (v272 : Vec Ideal S1x256 .f32)
    (h3 : ∀ r x, v246 (ix2 r x) = A.a3 (ix1 r))
    (hl : ∀ r d, v258 (ix2 r d) = (∑ k : Fin 32, A.a4 (ix2 (A.op r) k) * A.a5 (ix2 (⟨k.val, by omega⟩ : Fin 49) d))
    + (∑ k : Fin 8, bit (A.a1 (ix1 r)) k * A.a5 (ix2 (⟨32 + k.val, by omega⟩ : Fin 49) d))
    + (∑ k : Fin 8, bit (A.a2 (ix1 r)) k * A.a5 (ix2 (⟨40 + k.val, by omega⟩ : Fin 49) d)))
    (h5 : ∀ (x : Fin 1) d, v259 (ix2 x d) = A.a5 (ix2 (48 : Fin 49) d)) (h6 : ∀ (x : Fin 1) d, v264 (ix2 x d) = A.a6 (ix1 d))
    (h7 : ∀ k d, v269 (ix2 k d) = A.a7 (ix2 k d)) (h8 : ∀ (x : Fin 1) d, v272 (ix2 x d) = A.a8 (ix1 d))
    (r : Fin 4096) (d : Fin 256) : k0_pay12 (k0_pay10 v246) v258 v259 v264 v269 v272 (ix2 r d) = A.x r d := by
  have hc : ∀ r x, k0_pay10 (F := Ideal) v246 (ix2 r x) = FloatOps.sitofp (F := Ideal) .f32 (A.a3 (ix1 r)) := fun r x => by
    rw [← h3 r x]; pointwise [k0_pay10]
  generalize k0_pay10 (F := Ideal) v246 = C at hc ⊢
  have h : k0_pay12 C v258 v259 v264 v269 v272 (ix2 r d) =
      (v258 (ix2 r d) + C (ix2 r 0) * v259 (ix2 0 d) + v264 (ix2 0 d))
      + (∑ x : Fin 256, Ideal.tanh (v258 (ix2 r x) + C (ix2 r 0) * v259 (ix2 0 x) + v264 (ix2 0 x)) * v269 (ix2 x d))
      + v272 (ix2 0 d) := by
    pointwise [k0_pay12]
  rw [h]
  simp only [hc, hl, h5, h6, h7, h8]
  rfl

/-- The router probabilities. -/
theorem pay13_at (A : Args) (v248 : FVec Ideal S4096x1 .f32) (v258 : FVec Ideal S4096x256 .f32) (v259 v264 : Vec Ideal S1x256 .f32)
    (v269 : Vec Ideal S256x256 .f32) (v272 : Vec Ideal S1x256 .f32) (v276 : Vec Ideal S256x16 .f32)
    (hx : ∀ r d, k0_pay12 v248 v258 v259 v264 v269 v272 (ix2 r d) = A.x r d) (h9 : ∀ k e, v276 (ix2 k e) = A.a9 (ix2 k e))
    (r : Fin 4096) (e : Fin 16) : k0_pay13 v248 v258 v259 v264 v269 v272 v276 (ix2 r e) = A.p r e := by
  unfold k0_pay13
  generalize k0_pay12 v248 v258 v259 v264 v269 v272 = X at hx ⊢
  pointwise
  simp only [hx, h9, negInf]
  rfl

/-- The word comparison that marks the first maximum of a row. -/
theorem pick_word (g : Fin 16 → EReal) (e : Fin 16) :
    IntOp.cmpi .eq (BitVec.ofNat 32 e.val) (Finset.fold IntOp.minsi 2147483647#32
      (fun x : Fin 16 => if g x = Finset.fold max (Ideal.ofBits .f32 4286578688#32) g Finset.univ then BitVec.ofNat 32 x.val else 16#32) Finset.univ)
      = BitVec.ofBool (decide (e = first g)) := by
  rw [negInf]
  exact (congrArg _ (fold_min_word g)).trans (lane_eq e (first g))

/-- Masking the position just picked. -/
theorem mask_step (g : Fin 16 → EReal) (S : Finset (Fin 16)) (p e : Fin 16) :
    Scalar.select (BitVec.ofBool (decide (e = p))) (Ideal.ofBits .f32 3212836864#32) (mskS g S e) = mskS g (insert p S) e := by
  rw [negOne]
  unfold mskS
  by_cases h : e = p
  · simp [h, Scalar.select]
  · simp [h, Scalar.select]

/-- The disjunction of two truth values. -/
theorem ori_bool (a b : Bool) : IntOp.ori (BitVec.ofBool a) (BitVec.ofBool b) = BitVec.ofBool (a || b) := by
  cases a <;> cases b <;> rfl

/-- The lane index vector of the router. -/
def lanes : IVec S1x16 32 := iota .tc S1x16 32 [1] iota_S1x16_d1_w32

/-- The mask of the first pick. -/
theorem pay15_at (v248 : FVec Ideal S4096x1 .f32) (v258 : FVec Ideal S4096x256 .f32) (v259 v264 : Vec Ideal S1x256 .f32)
    (v269 : Vec Ideal S256x256 .f32) (v272 : Vec Ideal S1x256 .f32) (v276 : Vec Ideal S256x16 .f32) (g : Fin 4096 → Fin 16 → EReal)
    (hP : ∀ r e, k0_pay13 v248 v258 v259 v264 v269 v272 v276 (ix2 r e) = g r e)
    (r : Fin 4096) (e : Fin 16) : k0_pay15 v248 v258 v259 v264 v269 v272 v276 (ix2 r e) = BitVec.ofBool (decide (e = p1 (g r))) := by
  unfold k0_pay15
  generalize k0_pay13 v248 v258 v259 v264 v269 v272 v276 = P at hP ⊢
  pointwise
  simp only [hP]
  refine (pick_word (g r) e).trans ?_
  unfold p1
  have : mskS (g r) ∅ = g r := funext fun x => by simp [mskS]
  rw [this]

section Masks

variable (P : FVec Ideal S4096x16 .f32) (m1 : IVec S4096x16 1) (g : Fin 4096 → Fin 16 → EReal) (hP : ∀ r e, P (ix2 r e) = g r e)
  (hm : ∀ r e, m1 (ix2 r e) = BitVec.ofBool (decide (e = p1 (g r)))) (r : Fin 4096) (e : Fin 16)

include hP hm

/-- After the first pick the row has that position at minus one. -/
theorem pay16_at : k0_pay16 P m1 (ix2 r e) = mskS (g r) {p1 (g r)} e := by
  have h : k0_pay16 P m1 (ix2 r e) = Scalar.select (m1 (ix2 r e)) (Ideal.ofBits .f32 3212836864#32) (P (ix2 r e)) := by
    pointwise [k0_pay16]
  rw [h, hm, hP]
  have h0 : g r e = mskS (g r) ∅ e := by simp [mskS]
  rw [h0, mask_step]; rfl

/-- The mask of the second pick. -/
theorem pay17_at : k0_pay17 P lanes m1 (ix2 r e) = BitVec.ofBool (decide (e = p2 (g r))) := by
  have hG := pay16_at P m1 g hP hm
  unfold k0_pay17 lanes
  generalize k0_pay16 P m1 = G at hG ⊢
  pointwise
  simp only [hG]
  exact pick_word (mskS (g r) {p1 (g r)}) e

/-- After the second pick the row has both picked positions at minus one. -/
theorem pay18_at : k0_pay18 P lanes m1 (ix2 r e) = mskS (g r) {p2 (g r), p1 (g r)} e := by
  have hG := pay16_at P m1 g hP hm r e
  have hM := pay17_at P m1 g hP hm r e
  unfold k0_pay18
  generalize k0_pay16 P m1 = G at hG ⊢
  generalize k0_pay17 P lanes m1 = M at hM ⊢
  have h : ∀ (G : FVec Ideal S4096x16 .f32) (M : IVec S4096x16 1), select M (broadcast S4096x16 (Scalar.ofBits (F := Ideal) .f32 0xBF800000#32)) G (ix2 r e)
      = Scalar.select (M (ix2 r e)) (Ideal.ofBits .f32 3212836864#32) (G (ix2 r e)) := fun G M => by pointwise
  refine (h G M).trans ?_
  rw [hM, hG, mask_step]

/-- The mask of the third pick. -/
theorem pay19_at : k0_pay19 P lanes m1 (ix2 r e) = BitVec.ofBool (decide (e = p3 (g r))) := by
  have hG := pay18_at P m1 g hP hm
  unfold k0_pay19
  generalize k0_pay18 P lanes m1 = G at hG ⊢
  unfold lanes
  pointwise
  simp only [hG]
  exact pick_word (mskS (g r) {p2 (g r), p1 (g r)}) e

/-- The mask of the first three picks. -/
theorem pay20_at : k0_pay20 P k0_pay14 lanes m1 (ix2 r e) = BitVec.ofBool (decide (e ∈ ({p3 (g r), p2 (g r), p1 (g r)} : Finset (Fin 16)))) := by
  have h2 := pay17_at P m1 g hP hm r e
  have h3 := pay19_at P m1 g hP hm r e
  have h1 := hm r e
  unfold k0_pay20
  generalize k0_pay17 P lanes m1 = M2 at h2 ⊢
  generalize k0_pay19 P lanes m1 = M3 at h3 ⊢
  pointwise [k0_pay14]
  simp only [h1, h2, h3, Finset.mem_insert, Finset.mem_singleton]
  refine Eq.trans (congrArg (fun z => IntOp.ori (IntOp.ori z _) _) (ori_bool false _)) ?_
  rw [ori_bool, ori_bool]
  refine congrArg BitVec.ofBool ?_
  generalize hs1 : decide (e = p1 (g r)) = b1
  generalize hs2 : decide (e = p2 (g r)) = b2
  generalize hs3 : decide (e = p3 (g r)) = b3
  simp only [Bool.decide_or, hs1, hs2, hs3]
  cases b1 <;> cases b2 <;> cases b3 <;> rfl

/-- The mask of the fourth pick. -/
theorem pay21_at : k0_pay21 P lanes m1 (ix2 r e) = BitVec.ofBool (decide (e = p4 (g r))) := by
  have hG := pay18_at P m1 g hP hm
  have h3 := pay19_at P m1 g hP hm
  have hK : ∀ r e, Scalar.select (k0_pay19 P lanes m1 (ix2 r e)) (Ideal.ofBits .f32 3212836864#32) (k0_pay18 P lanes m1 (ix2 r e))
      = mskS (g r) {p3 (g r), p2 (g r), p1 (g r)} e := fun r e => by rw [hG, h3, mask_step]
  unfold k0_pay21
  generalize k0_pay18 P lanes m1 = G at hK ⊢
  generalize k0_pay19 P lanes m1 = M at hK ⊢
  unfold lanes
  pointwise
  simp only [hK]
  exact pick_word (mskS (g r) {p3 (g r), p2 (g r), p1 (g r)}) e

end Masks

/-- The gates from the two masks. -/
theorem pay22_at (P : FVec Ideal S4096x16 .f32) (m3 m4 : IVec S4096x16 1) (g : Fin 4096 → Fin 16 → EReal)
    (hP : ∀ r e, P (ix2 r e) = g r e)
    (h3 : ∀ r e, m3 (ix2 r e) = BitVec.ofBool (decide (e ∈ ({p3 (g r), p2 (g r), p1 (g r)} : Finset (Fin 16)))))
    (h4 : ∀ r e, m4 (ix2 r e) = BitVec.ofBool (decide (e = p4 (g r))))
    (r : Fin 4096) (e : Fin 16) : k0_pay22 P m3 m4 (ix2 r e) = gate (g r) e := by
  have hs : ∀ e, Scalar.select (IntOp.ori (m3 (ix2 r e)) (m4 (ix2 r e))) (P (ix2 r e)) 0 = if e ∈ picked (g r) then g r e else 0 := fun e => by
    rw [h3, h4, hP]
    unfold picked
    rw [ori_bool]
    have hb : (decide (e ∈ ({p3 (g r), p2 (g r), p1 (g r)} : Finset (Fin 16))) || decide (e = p4 (g r)))
        = decide (e ∈ ({p4 (g r), p3 (g r), p2 (g r), p1 (g r)} : Finset (Fin 16))) := by
      rw [Bool.eq_iff_iff]
      simp only [Bool.or_eq_true, decide_eq_true_eq, Finset.mem_insert (a := e) (b := p4 (g r))]
      exact or_comm
    rw [hb]
    by_cases h : e ∈ ({p4 (g r), p3 (g r), p2 (g r), p1 (g r)} : Finset (Fin 16))
    · rw [if_pos h, decide_eq_true h]; rfl
    · rw [if_neg h, decide_eq_false h]; rfl
  pointwise [k0_pay22]
  simp only [hs]
  rfl

/-- The gates stored in scratch are the gates computed. -/
theorem pay24_eq (P : FVec Ideal S4096x16 .f32) (m3 m4 : IVec S4096x16 1) : k0_pay24 P m3 m4 = k0_pay22 P m3 m4 := by
  funext j
  idx_vars j
  unfold k0_pay24
  generalize k0_pay22 P m3 m4 = G
  pointwise

/-- The activation stored in scratch is the activation computed. -/
theorem pay23_eq (v : FVec Ideal S4096x256 .f32) : k0_pay23 v = v := by
  funext j
  idx_vars j
  pointwise [k0_pay23]

end Cert.Val

end
-- ==== Proof.KerMoe.lean ====
/- The kernel's expert steps, weight sums and closing values read at an index. -/
module

public import proofs.«01_k».proof.Proof.KerAt

@[expose] public section

set_option maxRecDepth 16384

noncomputable section

namespace Cert.Val

open Idealize.ShloMosaic Cert.KernelIdeal Cert.KernelIdeal.Gen

/-- The word of expert `j` of point `s`. -/
theorem word_step (s j : ℕ) (t : Fin 16) (ht : t.val = 4 * s + j) :
    Scalar.addi (Scalar.muli (BitVec.ofNat 32 s) 4#32) (BitVec.ofNat 32 j) = BitVec.ofNat 32 t.val := by
  show BitVec.ofNat 32 s * BitVec.ofNat 32 4 + BitVec.ofNat 32 j = _
  rw [← BitVec.ofNat_mul, ← BitVec.ofNat_add, ht, mul_comm]

section Steps

variable (A : Args) (t : Fin 16) (X : Vec Ideal S4096x256 .f32) (G : Vec Ideal S4096x16 .f32) (B : FVec Ideal S4096x256 .f32)
  (w1 : Vec Ideal S1x256x512 .f32) (b1 : Vec Ideal S1x1x512 .f32) (w2 : Vec Ideal S1x512x256 .f32)
  (hx : ∀ r d, X (ix2 r d) = A.x r d) (hg : ∀ r e, G (ix2 r e) = A.g r e)
  (h10 : ∀ (z : Fin 1) k h, w1 (ix3 z k h) = A.a10 (ix3 t k h)) (h11 : ∀ (z y : Fin 1) h, b1 (ix3 z y h) = A.a11 (ix2 t h))
  (h12 : ∀ (z : Fin 1) h d, w2 (ix3 z h d) = A.a12 (ix3 t h d))

include hx hg h10 h11 h12

/-- The first expert of a point. -/
theorem pay32_at (i : grid0.Coords) (hi : t.val = 4 * (i 0).val + 0) (r : Fin 4096) (d : Fin 256) :
    k0_pay32 i X G w1 b1 w2 (ix2 r d) = A.g r t * A.hw t r d := by
  have h : k0_pay32 i X G w1 b1 w2 (ix2 r d) =
      (∑ x : Fin 16, G (ix2 r x) * FloatOps.sitofp (F := Ideal) .f32 (BitVec.setWidth 32 (IntOp.cmpi .eq (BitVec.ofNat 32 x.val)
        (Scalar.addi (Scalar.muli (BitVec.ofNat 32 (i 0).val) 4#32) 0#32))))
      * ∑ x : Fin 512, max ((∑ k : Fin 256, X (ix2 r k) * w1 (ix3 0 k x)) + b1 (ix3 0 0 x)) 0 * w2 (ix3 0 x d) := by
    pointwise [k0_pay32]
  rw [h, onehot_lane _ _ t (word_step _ 0 t hi)]
  simp only [hx, hg, h10, h11, h12]
  rfl

/-- The third expert of a point, added to what is there. -/
theorem pay39_at (w : BitVec 32) (hw : w = BitVec.ofNat 32 t.val) (r : Fin 4096) (d : Fin 256) :
    k0_pay39 X G lanes B w w1 b1 w2 (ix2 r d) = B (ix2 r d) + A.g r t * A.hw t r d := by
  have h : k0_pay39 X G lanes B w w1 b1 w2 (ix2 r d) = B (ix2 r d) +
      (∑ x : Fin 16, G (ix2 r x) * FloatOps.sitofp (F := Ideal) .f32 (BitVec.setWidth 32 (IntOp.cmpi .eq (BitVec.ofNat 32 x.val) w)))
      * ∑ x : Fin 512, max ((∑ k : Fin 256, X (ix2 r k) * w1 (ix3 0 k x)) + b1 (ix3 0 0 x)) 0 * w2 (ix3 0 x d) := by
    pointwise [k0_pay39, lanes]
  rw [h, onehot_lane _ _ t hw]
  simp only [hx, hg, h10, h11, h12]
  rfl

/-- The second expert of a point. -/
theorem pay36_at (w : BitVec 32) (hw : w = BitVec.ofNat 32 t.val) (r : Fin 4096) (d : Fin 256) :
    k0_pay36 G lanes B w (k0_pay35 X w1 b1) w2 (ix2 r d) = B (ix2 r d) + A.g r t * A.hw t r d := by
  have hk : ∀ h, k0_pay35 X w1 b1 (ix2 r h) = max ((∑ k : Fin 256, X (ix2 r k) * w1 (ix3 0 k h)) + b1 (ix3 0 0 h)) 0 := fun h => by
    pointwise [k0_pay35]
  generalize k0_pay35 X w1 b1 = H at hk ⊢
  have h : k0_pay36 G lanes B w H w2 (ix2 r d) = B (ix2 r d) +
      (∑ x : Fin 16, G (ix2 r x) * FloatOps.sitofp (F := Ideal) .f32 (BitVec.setWidth 32 (IntOp.cmpi .eq (BitVec.ofNat 32 x.val) w)))
      * ∑ x : Fin 512, H (ix2 r x) * w2 (ix3 0 x d) := by
    pointwise [k0_pay36, lanes]
  rw [h, onehot_lane _ _ t hw]
  simp only [hk, hx, hg, h10, h11, h12]
  rfl

/-- The fourth expert of a point. -/
theorem pay44_at (s : ℕ) (hs : t.val = 4 * s + 3) (r : Fin 4096) (d : Fin 256) :
    k0_pay44 (BitVec.ofNat 32 s) X G lanes B w1 b1 w2 (ix2 r d) = B (ix2 r d) + A.g r t * A.hw t r d := by
  have h : k0_pay44 (BitVec.ofNat 32 s) X G lanes B w1 b1 w2 (ix2 r d) = B (ix2 r d) +
      (∑ x : Fin 16, G (ix2 r x) * FloatOps.sitofp (F := Ideal) .f32 (BitVec.setWidth 32 (IntOp.cmpi .eq (BitVec.ofNat 32 x.val)
        (Scalar.addi (Scalar.muli (BitVec.ofNat 32 s) 4#32) 3#32))))
      * ∑ x : Fin 512, max ((∑ k : Fin 256, X (ix2 r k) * w1 (ix3 0 k x)) + b1 (ix3 0 0 x)) 0 * w2 (ix3 0 x d) := by
    pointwise [k0_pay44, lanes]
  rw [h, onehot_lane _ _ t (word_step _ 3 t hs)]
  simp only [hx, hg, h10, h11, h12]
  rfl

end Steps

/-- The first point stores its partial sum. -/
theorem pay3_at (v : FVec Ideal S4096x256 .f32) (r : Fin 4096) (d : Fin 256) : k0_pay3 v (ix2 r d) = v (ix2 r d) := by
  pointwise [k0_pay3]
/-- A later point adds its partial sum to what is there. -/
theorem pay6_at (v o : FVec Ideal S4096x256 .f32) (r : Fin 4096) (d : Fin 256) : k0_pay6 v o (ix2 r d) = o (ix2 r d) + v (ix2 r d) := by
  pointwise [k0_pay6]

section Tern

variable (A : Args) (t : Fin 16) (v o : FVec Ideal S1x1 .f32) (w1 : Vec Ideal S1x256x512 .f32) (w2 : Vec Ideal S1x512x256 .f32)
  (h10 : ∀ (z : Fin 1) k h, w1 (ix3 z k h) = A.a10 (ix3 t k h)) (h12 : ∀ (z : Fin 1) h d, w2 (ix3 z h d) = A.a12 (ix3 t h d)) (a b : Fin 1)

include h10

/-- One expert adds its ternary term of the first weights. -/
theorem pay33_at : k0_pay33 v w1 (ix2 a b) = v (ix2 a b) + A.t1 t := by
  have h : k0_pay33 v w1 (ix2 a b) = v (ix2 a b) + ∑ x : Fin 256, ∑ y : Fin 512, tern (w1 (ix3 0 x y)) := by
    pointwise [k0_pay33]
    rfl
  rw [h]; simp only [h10]; rfl
/-- One expert adds its ternary term of the first weights. -/
theorem pay37_at : k0_pay37 v w1 (ix2 a b) = v (ix2 a b) + A.t1 t := by
  have h : k0_pay37 v w1 (ix2 a b) = v (ix2 a b) + ∑ x : Fin 256, ∑ y : Fin 512, tern (w1 (ix3 0 x y)) := by
    pointwise [k0_pay37]
    rfl
  rw [h]; simp only [h10]; rfl
/-- One expert adds its ternary term of the first weights. -/
theorem pay41_at : k0_pay41 v w1 (ix2 a b) = v (ix2 a b) + A.t1 t := by
  have h : k0_pay41 v w1 (ix2 a b) = v (ix2 a b) + ∑ x : Fin 256, ∑ y : Fin 512, tern (w1 (ix3 0 x y)) := by
    pointwise [k0_pay41]
    rfl
  rw [h]; simp only [h10]; rfl
/-- One expert adds its ternary term of the first weights. -/
theorem pay1_at : k0_pay1 v (k0_pay45 w1) (ix2 a b) = v (ix2 a b) + A.t1 t := by
  have h : k0_pay1 v (k0_pay45 w1) (ix2 a b) = v (ix2 a b) + ∑ x : Fin 256, ∑ y : Fin 512, tern (w1 (ix3 0 x y)) := by
    pointwise [k0_pay1, k0_pay45]
    rfl
  rw [h]; simp only [h10]; rfl
/-- One expert adds its ternary term of the first weights. -/
theorem pay4_at : k0_pay4 v (k0_pay45 w1) (ix2 a b) = v (ix2 a b) + A.t1 t := by
  rw [← pay1_at A t v w1 h10]
  unfold k0_pay4
  generalize k0_pay1 v (k0_pay45 w1) = K
  pointwise
/-- A later point adds its ternary terms of the first weights to what is there. -/
theorem pay7_at : k0_pay7 v (k0_pay45 w1) o (ix2 a b) = o (ix2 a b) + (v (ix2 a b) + A.t1 t) := by
  rw [← pay1_at A t v w1 h10]
  unfold k0_pay7
  generalize k0_pay1 v (k0_pay45 w1) = K
  pointwise

omit h10
include h12

/-- One expert adds its ternary term of the second weights. -/
theorem pay34_at : k0_pay34 v w2 (ix2 a b) = v (ix2 a b) + A.t2 t := by
  have h : k0_pay34 v w2 (ix2 a b) = v (ix2 a b) + ∑ x : Fin 512, ∑ y : Fin 256, tern (w2 (ix3 0 x y)) := by
    pointwise [k0_pay34]
    rfl
  rw [h]; simp only [h12]; rfl
/-- One expert adds its ternary term of the second weights. -/
theorem pay38_at : k0_pay38 v w2 (ix2 a b) = v (ix2 a b) + A.t2 t := by
  have h : k0_pay38 v w2 (ix2 a b) = v (ix2 a b) + ∑ x : Fin 512, ∑ y : Fin 256, tern (w2 (ix3 0 x y)) := by
    pointwise [k0_pay38]
    rfl
  rw [h]; simp only [h12]; rfl
/-- One expert adds its ternary term of the second weights. -/
theorem pay43_at : k0_pay43 v (k0_pay40 w2) (k0_pay42 w2) (ix2 a b) = v (ix2 a b) + A.t2 t := by
  have h : k0_pay43 v (k0_pay40 w2) (k0_pay42 w2) (ix2 a b) = v (ix2 a b) + ∑ x : Fin 512, ∑ y : Fin 256, tern (w2 (ix3 0 x y)) := by
    pointwise [k0_pay43, k0_pay40, k0_pay42]
    rfl
  rw [h]; simp only [h12]; rfl
/-- One expert adds its ternary term of the second weights. -/
theorem pay2_at : k0_pay2 v (k0_pay46 w2) (ix2 a b) = v (ix2 a b) + A.t2 t := by
  have h : k0_pay2 v (k0_pay46 w2) (ix2 a b) = v (ix2 a b) + ∑ x : Fin 512, ∑ y : Fin 256, tern (w2 (ix3 0 x y)) := by
    pointwise [k0_pay2, k0_pay46]
    rfl
  rw [h]; simp only [h12]; rfl
/-- One expert adds its ternary term of the second weights. -/
theorem pay5_at : k0_pay5 v (k0_pay46 w2) (ix2 a b) = v (ix2 a b) + A.t2 t := by
  rw [← pay2_at A t v w2 h12]
  unfold k0_pay5
  generalize k0_pay2 v (k0_pay46 w2) = K
  pointwise
/-- A later point adds its ternary terms of the second weights to what is there. -/
theorem pay8_at : k0_pay8 v (k0_pay46 w2) o (ix2 a b) = o (ix2 a b) + (v (ix2 a b) + A.t2 t) := by
  rw [← pay2_at A t v w2 h12]
  unfold k0_pay8
  generalize k0_pay2 v (k0_pay46 w2) = K
  pointwise

end Tern

/-- The two sums start at zero. -/
theorem pay30_at (a b : Fin 1) : k0_pay30 (F := Ideal) (ix2 a b) = 0 := by pointwise [k0_pay30]
/-- The ternary sums of a point start at zero. -/
theorem pay31_at (a b : Fin 1) : k0_pay31 (F := Ideal) (ix2 a b) = 0 := by pointwise [k0_pay31]

/-- The balance and spread terms. -/
theorem pay29_at (A : Args) (P G : FVec Ideal S4096x16 .f32) (m3 m4 : IVec S4096x16 1) (hG : ∀ r e, k0_pay22 P m3 m4 (ix2 r e) = A.g r e)
    (hP : ∀ r e, P (ix2 r e) = A.p r e) (a b : Fin 1) :
    k0_pay29 (k0_pay25 P m3 m4) (k0_pay26 P) (ix2 a b) = Ideal.ofBits .f32 1042536202#32 * A.balance
      + Ideal.div (Ideal.ofBits .f32 1000593162#32 * A.spread) (Ideal.ofBits .f32 1166016512#32) := by
  have h25 : k0_pay25 P m3 m4 (ix2 a b) = Ideal.ofBits .f32 1042536202#32 * A.balance := by
    unfold k0_pay25
    generalize k0_pay22 P m3 m4 = G at hG ⊢
    pointwise
    simp only [hP, hG, Fin.sum_univ_one, Finset.univ_unique, Finset.sum_singleton]
    rfl
  have h26 : k0_pay26 P (ix2 a b) = A.spread := by
    pointwise [k0_pay26]
    simp only [hP]
    rfl
  rw [← h25, ← h26]
  generalize k0_pay25 P m3 m4 = K
  generalize k0_pay26 P = L
  pointwise [k0_pay29]

/-- The closing sum of the auxiliary loss. -/
theorem pay9_at (s1 s2 s3 : FVec Ideal S1x1 .f32) (a b : Fin 1) :
    k0_pay9 (k0_pay28 s1) s2 s3 (ix2 a b) = s3 (ix2 a b) + Ideal.ofBits .f32 1008981770#32 *
      (Ideal.div (s1 (ix2 a b)) (Ideal.ofBits .f32 1241513984#32) + Ideal.div (s2 (ix2 a b)) (Ideal.ofBits .f32 1241513984#32)) := by
  pointwise [k0_pay9, k0_pay28]

/-- The head, from the gated sum of the experts without their biases. -/
theorem pay27_at (A : Args) (v222 : Vec Ideal S4096x256 .f32) (G : Vec Ideal S4096x16 .f32) (v224 : Vec Ideal S16x256 .f32)
    (v227 : Vec Ideal S256x64 .f32) (v229 : Vec Ideal S1x64 .f32) (v235 : Vec Ideal S64x8 .f32) (v237 : Vec Ideal S1x8 .f32)
    (hs : ∀ r d, v222 (ix2 r d) = ∑ t : Fin 16, A.g r t * A.hw t r d) (hg : ∀ r e, G (ix2 r e) = A.g r e)
    (h13 : ∀ t d, v224 (ix2 t d) = A.a13 (ix2 t d)) (h14 : ∀ k h, v227 (ix2 k h) = A.a14 (ix2 k h))
    (h15 : ∀ (z : Fin 1) h, v229 (ix2 z h) = A.a15 (ix1 h)) (h16 : ∀ h d, v235 (ix2 h d) = A.a16 (ix2 h d))
    (h17 : ∀ (z : Fin 1) d, v237 (ix2 z d) = A.a17 (ix1 d)) (r : Fin 4096) (d : Fin 8) :
    k0_pay27 v222 G v224 v227 v229 v235 v237 (ix2 r d) = A.out r d := by
  have h : k0_pay27 v222 G v224 v227 v229 v235 v237 (ix2 r d) = Ideal.div 1 (1 + Ideal.exp (0 - (∑ x : Fin 64,
      max (∑ k : Fin 256, (v222 (ix2 r k) + ∑ t : Fin 16, G (ix2 r t) * v224 (ix2 t k)) * v227 (ix2 k x) + v229 (ix2 0 x)) 0
        * v235 (ix2 x d) + v237 (ix2 0 d)))) := by
    pointwise [k0_pay27]
  have hm : ∀ k, (∑ t : Fin 16, A.g r t * A.hw t r k) + (∑ t : Fin 16, A.g r t * A.a13 (ix2 t k)) = A.moe r k := fun k => by
    unfold Args.moe
    rw [← Finset.sum_add_distrib]
    refine Finset.sum_congr rfl fun t _ => ?_
    exact (EReal.left_distrib_of_nonneg_of_ne_top (gate_range (A.logit r) t).1 (gate_range (A.logit r) t).2 _ _).symm
  rw [h]
  simp only [hs, hg, h13, h14, h15, h16, h17, hm, zero_sub]
  rfl

end Cert.Val

end
-- ==== Proof.KerIn.lean ====
/- The kernel's arguments, and its windows' blocks read at an index. -/
module

public import proofs.«01_k».proof.Proof.RunData
public import proofs.«01_k».proof.Proof.KerMoe
public import Idealize.ShloMosaic.Lib.Claim
public import Idealize.ShloMosaic.Lib.Pipeline.ValueKit

@[expose] public section

set_option maxRecDepth 16384

noncomputable section

namespace Cert.Val

open Idealize.ShloMosaic Idealize.ShloMosaic.TcCoe Cert.KernelIdeal Cert.KernelIdeal.Gen Cert.KernelIdeal.Hand

variable (m : (ℓ : Loc nD τ sig) → Buf (Elt Ideal) ℓ)

/-- The kernel's arguments on a device. -/
def argsK (c : Dev nD) : Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)
  a17 := m ((c : Thread nD τ).loc main_arg17)

/-- Where each window's block sits, point by point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![t.val, 0, 0] ∧ win0_11.index t = ![t.val, 0, 0] ∧ win0_12.index t = ![t.val, 0, 0]
    ∧ win0_13.index t = ![0, 0] ∧ win0_14.index t = ![0, 0] ∧ win0_15.index t = ![0, 0] ∧ win0_16.index t = ![0, 0] ∧ win0_17.index t = ![0, 0]
    ∧ t.val < 4 ∧ (grid0.coords t 0).val = t.val :=
  (by decide +kernel : ∀ t : Fin grid0.N, _)

/-- Expert `j` of point `s`. -/
def ex (s : ℕ) (hs : s < 4) (j : Fin 4) : Fin 16 := ⟨4 * s + j.val, by omega⟩

/-- Window 0 holds argument 0, read at its coordinates. -/
theorem b0 (c : Dev nD) (t : Fin cfg0.N) (r : Fin 4096) (x : Fin 1) : iblk m c 0 t (ix2 r x) = (argsK m c).a0 (ix1 r) := by
  unfold argsK; blk_ext! [iblk, V, idx t]
/-- Window 1 holds argument 1, read at its coordinates. -/
theorem b1 (c : Dev nD) (t : Fin cfg0.N) (r : Fin 4096) (x : Fin 1) : iblk m c 1 t (ix2 r x) = (argsK m c).a1 (ix1 r) := by
  unfold argsK; blk_ext! [iblk, V, idx t]
/-- Window 2 holds argument 2, read at its coordinates. -/
theorem b2 (c : Dev nD) (t : Fin cfg0.N) (r : Fin 4096) (x : Fin 1) : iblk m c 2 t (ix2 r x) = (argsK m c).a2 (ix1 r) := by
  unfold argsK; blk_ext! [iblk, V, idx t]
/-- Window 3 holds argument 3, read at its coordinates. -/
theorem b3 (c : Dev nD) (t : Fin cfg0.N) (r : Fin 4096) (x : Fin 1) : iblk m c 3 t (ix2 r x) = (argsK m c).a3 (ix1 r) := by
  unfold argsK; blk_ext! [iblk, V, idx t]
/-- Window 4 holds argument 4, read at its coordinates. -/
theorem b4 (c : Dev nD) (t : Fin cfg0.N) (r : Fin 8) (x : Fin 32) : iblk m c 4 t (ix2 r x) = (argsK m c).a4 (ix2 r x) := by
  unfold argsK; blk_ext! [iblk, V, idx t]
/-- Window 6 holds argument 6, read at its coordinates. -/
theorem b6 (c : Dev nD) (t : Fin cfg0.N) (r : Fin 1) (x : Fin 256) : iblk m c 6 t (ix2 r x) = (argsK m c).a6 (ix1 x) := by
  unfold argsK; blk_ext! [iblk, V, idx t]
/-- Window 7 holds argument 7, read at its coordinates. -/
theorem b7 (c : Dev nD) (t : Fin cfg0.N) (r : Fin 256) (x : Fin 256) : iblk m c 7 t (ix2 r x) = (argsK m c).a7 (ix2 r x) := by
  unfold argsK; blk_ext! [iblk, V, idx t]
/-- Window 8 holds argument 8, read at its coordinates. -/
theorem b8 (c : Dev nD) (t : Fin cfg0.N) (r : Fin 1) (x : Fin 256) : iblk m c 8 t (ix2 r x) = (argsK m c).a8 (ix1 x) := by
  unfold argsK; blk_ext! [iblk, V, idx t]
/-- Window 9 holds argument 9, read at its coordinates. -/
theorem b9 (c : Dev nD) (t : Fin cfg0.N) (r : Fin 256) (x : Fin 16) : iblk m c 9 t (ix2 r x) = (argsK m c).a9 (ix2 r x) := by
  unfold argsK; blk_ext! [iblk, V, idx t]
/-- Window 13 holds argument 13, read at its coordinates. -/
theorem b13 (c : Dev nD) (t : Fin cfg0.N) (r : Fin 16) (x : Fin 256) : iblk m c 13 t (ix2 r x) = (argsK m c).a13 (ix2 r x) := by
  unfold argsK; blk_ext! [iblk, V, idx t]
/-- Window 14 holds argument 14, read at its coordinates. -/
theorem b14 (c : Dev nD) (t : Fin cfg0.N) (r : Fin 256) (x : Fin 64) : iblk m c 14 t (ix2 r x) = (argsK m c).a14 (ix2 r x) := by
  unfold argsK; blk_ext! [iblk, V, idx t]
/-- Window 15 holds argument 15, read at its coordinates. -/
theorem b15 (c : Dev nD) (t : Fin cfg0.N) (r : Fin 1) (x : Fin 64) : iblk m c 15 t (ix2 r x) = (argsK m c).a15 (ix1 x) := by
  unfold argsK; blk_ext! [iblk, V, idx t]
/-- Window 16 holds argument 16, read at its coordinates. -/
theorem b16 (c : Dev nD) (t : Fin cfg0.N) (r : Fin 64) (x : Fin 8) : iblk m c 16 t (ix2 r x) = (argsK m c).a16 (ix2 r x) := by
  unfold argsK; blk_ext! [iblk, V, idx t]
/-- Window 17 holds argument 17, read at its coordinates. -/
theorem b17 (c : Dev nD) (t : Fin cfg0.N) (r : Fin 1) (x : Fin 8) : iblk m c 17 t (ix2 r x) = (argsK m c).a17 (ix1 x) := by
  unfold argsK; blk_ext! [iblk, V, idx t]
/-- Window 5 holds argument 5, read at its coordinates. -/
theorem b5 (c : Dev nD) (t : Fin cfg0.N) (r : Fin 49) (x : Fin 256) : iblk m c 5 t (ix2 r x) = (argsK m c).a5 (ix2 r x) := by
  unfold argsK; blk_ext! [iblk, V, idx t]
/-- Window 10 at point `t` holds the weights of experts `4 t` to `4 t + 3`, read at its coordinates. -/
theorem b10 (c : Dev nD) (t : Fin cfg0.N) (ht : t.val < 4) (j : Fin 4) (k : Fin 256) (h : Fin 512) :
    iblk m c 10 t (ix3 j k h) = (argsK m c).a10 (ix3 (ex t.val ht j) k h) := by
  unfold argsK ex; blk_ext! [iblk, V, idx t]
/-- Window 11 at point `t` holds the weights of experts `4 t` to `4 t + 3`, read at its coordinates. -/
theorem b11 (c : Dev nD) (t : Fin cfg0.N) (ht : t.val < 4) (j : Fin 4) (y : Fin 1) (h : Fin 512) :
    iblk m c 11 t (ix3 j y h) = (argsK m c).a11 (ix2 (ex t.val ht j) h) := by
  unfold argsK ex; blk_ext! [iblk, V, idx t]
/-- Window 12 at point `t` holds the weights of experts `4 t` to `4 t + 3`, read at its coordinates. -/
theorem b12 (c : Dev nD) (t : Fin cfg0.N) (ht : t.val < 4) (j : Fin 4) (h : Fin 512) (d : Fin 256) :
    iblk m c 12 t (ix3 j h d) = (argsK m c).a12 (ix3 (ex t.val ht j) h d) := by
  unfold argsK ex; blk_ext! [iblk, V, idx t]

end Cert.Val

end
-- ==== Proof.KerSt.lean ====
/- What each grid point leaves, read at an index. -/
module

public import proofs.«01_k».proof.Proof.KerIn
public import Idealize.ShloMosaic.Lib.Pipeline.ReadBack

@[expose] public section

set_option maxRecDepth 16384

noncomputable section

namespace Cert.Val

open Idealize.ShloMosaic Idealize.ShloMosaic.TcCoe Cert.KernelIdeal Cert.KernelIdeal.Gen Cert.KernelIdeal.Hand

/-- The four experts of a point, added in order. -/
def quad (q : Fin 16 → EReal) (s : ℕ) (hs : s < 4) : EReal := q (ex s hs 0) + q (ex s hs 1) + q (ex s hs 2) + q (ex s hs 3)

/-- The four points' sums make the sum over the experts. -/
theorem quad_sum (q : Fin 16 → EReal) :
    quad q 0 (by omega) + quad q 1 (by omega) + quad q 2 (by omega) + quad q 3 (by omega) = ∑ t, q t := by
  simp only [Fin.sum_univ_succ, Fin.sum_univ_zero, quad, ex, add_zero, add_assoc]
  rfl

/-- A loaded expert of a weight block. -/
theorem ld10 (Y : Vec Ideal S4x256x512 .f32) (j : ℕ) (hj : j < 4) (inb) (z : Fin 1) (y : Fin 256) (h : Fin 512) :
    View.ld Y (Rect.unit (s := S4x256x512) ![j, 0, 0] ![1, 256, 512] inb) (ix3 z y h) = Y (ix3 (⟨j, hj⟩ : Fin 4) y h) := by
  refine congrArg Y (?_ : (Rect.unit _ _ inb).idx _ = _)
  funext a
  refine Fin.ext ?_
  rw [Rect.idx_unit_val]
  have hz := z.isLt
  fin_cases a
  · show j + z.val = j; omega
  · show 0 + y.val = y.val; omega
  · show 0 + h.val = h.val; omega
/-- The slice of one expert read from a block of four first-bias rows. -/
theorem ld11 (Y : Vec Ideal S4x1x512 .f32) (j : ℕ) (hj : j < 4) (inb) (z : Fin 1) (y : Fin 1) (h : Fin 512) :
    View.ld Y (Rect.unit (s := S4x1x512) ![j, 0, 0] ![1, 1, 512] inb) (ix3 z y h) = Y (ix3 (⟨j, hj⟩ : Fin 4) y h) := by
  refine congrArg Y (?_ : (Rect.unit _ _ inb).idx _ = _)
  funext a
  refine Fin.ext ?_
  rw [Rect.idx_unit_val]
  have hz := z.isLt
  fin_cases a
  · show j + z.val = j; omega
  · show 0 + y.val = y.val; omega
  · show 0 + h.val = h.val; omega
/-- The slice of one expert read from a block of four second-weight matrices. -/
theorem ld12 (Y : Vec Ideal S4x512x256 .f32) (j : ℕ) (hj : j < 4) (inb) (z : Fin 1) (y : Fin 512) (h : Fin 256) :
    View.ld Y (Rect.unit (s := S4x512x256) ![j, 0, 0] ![1, 512, 256] inb) (ix3 z y h) = Y (ix3 (⟨j, hj⟩ : Fin 4) y h) := by
  refine congrArg Y (?_ : (Rect.unit _ _ inb).idx _ = _)
  funext a
  refine Fin.ext ?_
  rw [Rect.idx_unit_val]
  have hz := z.isLt
  fin_cases a
  · show j + z.val = j; omega
  · show 0 + y.val = y.val; omega
  · show 0 + h.val = h.val; omega
/-- Loaded rows of the input projection. -/
theorem ld5 (Y : Vec Ideal S49x256 .f32) (o n : ℕ) (inb) (k : Fin n) (d : Fin 256) (ho : o + k.val < 49) :
    View.ld Y (Rect.unit (s := S49x256) ![o, 0] ![n, 256] inb) (ix2 k d) = Y (ix2 (⟨o + k.val, ho⟩ : Fin 49) d) := by
  refine congrArg Y (?_ : (Rect.unit _ _ inb).idx _ = _)
  funext a
  refine Fin.ext ?_
  rw [Rect.idx_unit_val]
  fin_cases a
  · rfl
  · show 0 + d.val = d.val; omega

section Chain

variable (A : Args) (s : ℕ) (hs : s < 4)
  (X : Vec Ideal S4096x256 .f32) (G : Vec Ideal S4096x16 .f32)
  (u0 u1 u2 u3 : Vec Ideal S1x256x512 .f32) (b0 b1 b2 b3 : Vec Ideal S1x1x512 .f32) (w0 w1 w2 w3 : Vec Ideal S1x512x256 .f32)
  (hx : ∀ r d, X (ix2 r d) = A.x r d) (hg : ∀ r e, G (ix2 r e) = A.g r e)
  (hu0 : ∀ (z : Fin 1) k h, u0 (ix3 z k h) = A.a10 (ix3 (ex s hs 0) k h)) (hb0 : ∀ (z y : Fin 1) h, b0 (ix3 z y h) = A.a11 (ix2 (ex s hs 0) h))
  (hw0 : ∀ (z : Fin 1) h d, w0 (ix3 z h d) = A.a12 (ix3 (ex s hs 0) h d))
  (hu1 : ∀ (z : Fin 1) k h, u1 (ix3 z k h) = A.a10 (ix3 (ex s hs 1) k h)) (hb1 : ∀ (z y : Fin 1) h, b1 (ix3 z y h) = A.a11 (ix2 (ex s hs 1) h))
  (hw1 : ∀ (z : Fin 1) h d, w1 (ix3 z h d) = A.a12 (ix3 (ex s hs 1) h d))
  (hu2 : ∀ (z : Fin 1) k h, u2 (ix3 z k h) = A.a10 (ix3 (ex s hs 2) k h)) (hb2 : ∀ (z y : Fin 1) h, b2 (ix3 z y h) = A.a11 (ix2 (ex s hs 2) h))
  (hw2 : ∀ (z : Fin 1) h d, w2 (ix3 z h d) = A.a12 (ix3 (ex s hs 2) h d))
  (hu3 : ∀ (z : Fin 1) k h, u3 (ix3 z k h) = A.a10 (ix3 (ex s hs 3) k h)) (hb3 : ∀ (z y : Fin 1) h, b3 (ix3 z y h) = A.a11 (ix2 (ex s hs 3) h))
  (hw3 : ∀ (z : Fin 1) h d, w3 (ix3 z h d) = A.a12 (ix3 (ex s hs 3) h d))

include hx hg hu0 hb0 hw0 hu1 hb1 hw1 hu2 hb2 hw2 hu3 hb3 hw3 in
/-- A point's four experts. -/
theorem chain_at (i : grid0.Coords) (hi : (i 0).val = s) (r : Fin 4096) (d : Fin 256) :
    k0_pay44 (BitVec.ofNat 32 (i 0).val) X G lanes (k0_pay39 X G lanes (k0_pay36 G lanes (k0_pay32 i X G u0 b0 w0)
      (Scalar.addi (Scalar.muli (BitVec.ofNat 32 (i 0).val) 4#32) 1#32) (k0_pay35 X u1 b1) w1)
      (Scalar.addi (Scalar.muli (BitVec.ofNat 32 (i 0).val) 4#32) 2#32) u2 b2 w2) u3 b3 w3 (ix2 r d)
      = quad (fun e => A.g r e * A.hw e r d) s hs := by
  rw [pay44_at A (ex s hs 3) X G _ u3 b3 w3 hx hg hu3 hb3 hw3 _ (by rw [hi]; rfl),
    pay39_at A (ex s hs 2) X G _ u2 b2 w2 hx hg hu2 hb2 hw2 _ (word_step _ 2 _ (by rw [hi]; rfl)),
    pay36_at A (ex s hs 1) X G _ u1 b1 w1 hx hg hu1 hb1 hw1 _ (word_step _ 1 _ (by rw [hi]; rfl)),
    pay32_at A (ex s hs 0) X G u0 b0 w0 hx hg hu0 hb0 hw0 i (by rw [hi]; rfl)]
  rfl

include hu0 hu1 hu2 hu3 in
/-- A point's gaps of the first weights: started, and added to what is there. -/
theorem gapA_at (a b : Fin 1) : k0_pay4 (k0_pay41 (k0_pay37 (k0_pay33 (k0_pay30 (F := Ideal)) u0) u1) u2) (k0_pay45 u3) (ix2 a b) = quad A.t1 s hs := by
  rw [pay4_at A (ex s hs 3) _ u3 hu3, pay41_at A (ex s hs 2) _ u2 hu2, pay37_at A (ex s hs 1) _ u1 hu1, pay33_at A (ex s hs 0) _ u0 hu0, pay30_at, zero_add]
  rfl
include hu0 hu1 hu2 hu3 in
/-- The ternary sum of the first weights over a later point's four experts, added to what is there. -/
theorem gapB_at (o : FVec Ideal S1x1 .f32) (a b : Fin 1) :
    k0_pay7 (k0_pay41 (k0_pay37 (k0_pay33 (k0_pay30 (F := Ideal)) u0) u1) u2) (k0_pay45 u3) o (ix2 a b) = o (ix2 a b) + quad A.t1 s hs := by
  rw [pay7_at A (ex s hs 3) _ o u3 hu3, pay41_at A (ex s hs 2) _ u2 hu2, pay37_at A (ex s hs 1) _ u1 hu1, pay33_at A (ex s hs 0) _ u0 hu0, pay30_at, zero_add]
  rfl
include hw0 hw1 hw2 hw3 in
/-- The same for the second weights. -/
theorem hapA_at (a b : Fin 1) : k0_pay5 (k0_pay43 (k0_pay38 (k0_pay34 (k0_pay31 (F := Ideal)) w0) w1) (k0_pay40 w2) (k0_pay42 w2)) (k0_pay46 w3) (ix2 a b) = quad A.t2 s hs := by
  rw [pay5_at A (ex s hs 3) _ w3 hw3, pay43_at A (ex s hs 2) _ w2 hw2, pay38_at A (ex s hs 1) _ w1 hw1, pay34_at A (ex s hs 0) _ w0 hw0, pay31_at, zero_add]
  rfl
include hw0 hw1 hw2 hw3 in
/-- The ternary sum of the second weights over a later point's four experts, added to what is there. -/
theorem hapB_at (o : FVec Ideal S1x1 .f32) (a b : Fin 1) :
    k0_pay8 (k0_pay43 (k0_pay38 (k0_pay34 (k0_pay31 (F := Ideal)) w0) w1) (k0_pay40 w2) (k0_pay42 w2)) (k0_pay46 w3) o (ix2 a b) = o (ix2 a b) + quad A.t2 s hs := by
  rw [pay8_at A (ex s hs 3) _ o w3 hw3, pay43_at A (ex s hs 2) _ w2 hw2, pay38_at A (ex s hs 1) _ w1 hw1, pay34_at A (ex s hs 0) _ w0 hw0, pay31_at, zero_add]
  rfl

end Chain

variable (m : (ℓ : Loc nD τ sig) → Buf (Elt Ideal) ℓ)

/-- The loaded rows of the input projection are the argument's. -/
theorem w5a (c : Dev nD) (t : Fin cfg0.N) (inb) (k : Fin 32) (d : Fin 256) :
    View.ld (iblk m c 5 t) (Rect.unit (s := S49x256) ![0, 0] ![32, 256] inb) (ix2 k d) = (argsK m c).a5 (ix2 (⟨k.val, by omega⟩ : Fin 49) d) := by
  refine (ld5 (iblk m c 5 t) 0 32 inb k d (by omega)).trans ((b5 m c t _ d).trans ?_)
  simp only [Nat.zero_add]
/-- Eight rows of the input weights, read from their window. -/
theorem w5b (c : Dev nD) (t : Fin cfg0.N) (o : ℕ) (ho : o ≤ 41) (inb) (k : Fin 8) (d : Fin 256) :
    View.ld (iblk m c 5 t) (Rect.unit (s := S49x256) ![o, 0] ![8, 256] inb) (ix2 k d) = (argsK m c).a5 (ix2 (⟨o + k.val, by omega⟩ : Fin 49) d) :=
  (ld5 (iblk m c 5 t) o 8 inb k d (by omega)).trans (b5 m c t _ d)
/-- The last row of the input weights, read from its window. -/
theorem w5c (c : Dev nD) (t : Fin cfg0.N) (inb) (k : Fin 1) (d : Fin 256) :
    View.ld (iblk m c 5 t) (Rect.unit (s := S49x256) ![48, 0] ![1, 256] inb) (ix2 k d) = (argsK m c).a5 (ix2 (48 : Fin 49) d) := by
  obtain rfl : k = 0 := Subsingleton.elim _ _
  exact (ld5 (iblk m c 5 t) 48 1 inb 0 d (by decide)).trans (b5 m c t _ d)

/-- The loaded experts are the argument's. -/
theorem w10 (c : Dev nD) (t : Fin cfg0.N) (ht : t.val < 4) (j : ℕ) (hj : j < 4) (inb) (z : Fin 1) (k : Fin 256) (h : Fin 512) :
    View.ld (iblk m c 10 t) (Rect.unit (s := S4x256x512) ![j, 0, 0] ![1, 256, 512] inb) (ix3 z k h) = (argsK m c).a10 (ix3 (ex t.val ht ⟨j, hj⟩) k h) :=
  (ld10 (iblk m c 10 t) j hj inb z k h).trans (b10 m c t ht ⟨j, hj⟩ k h)
/-- The first bias of one expert of the point. -/
theorem w11 (c : Dev nD) (t : Fin cfg0.N) (ht : t.val < 4) (j : ℕ) (hj : j < 4) (inb) (z y : Fin 1) (h : Fin 512) :
    View.ld (iblk m c 11 t) (Rect.unit (s := S4x1x512) ![j, 0, 0] ![1, 1, 512] inb) (ix3 z y h) = (argsK m c).a11 (ix2 (ex t.val ht ⟨j, hj⟩) h) :=
  (ld11 (iblk m c 11 t) j hj inb z y h).trans (b11 m c t ht ⟨j, hj⟩ y h)
/-- The second weights of one expert of the point. -/
theorem w12 (c : Dev nD) (t : Fin cfg0.N) (ht : t.val < 4) (j : ℕ) (hj : j < 4) (inb) (z : Fin 1) (h : Fin 512) (d : Fin 256) :
    View.ld (iblk m c 12 t) (Rect.unit (s := S4x512x256) ![j, 0, 0] ![1, 512, 256] inb) (ix3 z h d) = (argsK m c).a12 (ix3 (ex t.val ht ⟨j, hj⟩) h d) :=
  (ld12 (iblk m c 12 t) j hj inb z h d).trans (b12 m c t ht ⟨j, hj⟩ h d)

/-- The hidden rows of the router block. -/
theorem rows_at (c : Dev nD) (hA : (argsK m c).InRange) (t : Fin cfg0.N)
    (u : Vec Ideal S32x256 .f32) (v w : Vec Ideal S8x256 .f32) (y : Vec Ideal S1x256 .f32)
    (hu : ∀ (k : Fin 32) d, u (ix2 k d) = (argsK m c).a5 (ix2 (⟨k.val, by omega⟩ : Fin 49) d))
    (hv : ∀ (k : Fin 8) d, v (ix2 k d) = (argsK m c).a5 (ix2 (⟨32 + k.val, by omega⟩ : Fin 49) d))
    (hw : ∀ (k : Fin 8) d, w (ix2 k d) = (argsK m c).a5 (ix2 (⟨40 + k.val, by omega⟩ : Fin 49) d))
    (hy : ∀ (x : Fin 1) d, y (ix2 x d) = (argsK m c).a5 (ix2 (48 : Fin 49) d)) (r : Fin 4096) (d : Fin 256) :
    k0_pay12 (k0_pay10 (iblk m c 3 t)) (k0_pay11 (iblk m c 0 t) (iblk m c 1 t) (iblk m c 2 t) (iblk m c 4 t) u v w) y
      (iblk m c 6 t) (iblk m c 7 t) (iblk m c 8 t) (ix2 r d) = (argsK m c).x r d :=
  pay12_at (argsK m c) _ _ _ _ _ _ (b3 m c t)
    (fun r d => pay11_at (argsK m c) hA _ _ _ _ _ _ _ (b0 m c t) (b1 m c t) (b2 m c t) (b4 m c t) hu hv hw r d)
    hy (b6 m c t) (b7 m c t) (b8 m c t) r d

/-- The gates over the router block, and the balance and spread. -/
theorem gates_at (A : Args) (v248 : FVec Ideal S4096x1 .f32) (v258 : FVec Ideal S4096x256 .f32) (v259 v264 : Vec Ideal S1x256 .f32)
    (v269 : Vec Ideal S256x256 .f32) (v272 : Vec Ideal S1x256 .f32) (v276 : Vec Ideal S256x16 .f32)
    (hP : ∀ r e, k0_pay13 v248 v258 v259 v264 v269 v272 v276 (ix2 r e) = A.p r e) (r : Fin 4096) (e : Fin 16) :
    k0_pay22 (k0_pay13 v248 v258 v259 v264 v269 v272 v276)
      (k0_pay20 (k0_pay13 v248 v258 v259 v264 v269 v272 v276) k0_pay14 lanes (k0_pay15 v248 v258 v259 v264 v269 v272 v276))
      (k0_pay21 (k0_pay13 v248 v258 v259 v264 v269 v272 v276) lanes (k0_pay15 v248 v258 v259 v264 v269 v272 v276)) (ix2 r e) = A.g r e := by
  have hm := pay15_at v248 v258 v259 v264 v269 v272 v276 A.p hP
  exact pay22_at _ _ _ A.p hP (fun r e => pay20_at _ _ A.p hP hm r e) (fun r e => pay21_at _ _ A.p hP hm r e) r e

/-- The balance and spread over the router block. -/
theorem spread_at (A : Args) (v248 : FVec Ideal S4096x1 .f32) (v258 : FVec Ideal S4096x256 .f32) (v259 v264 : Vec Ideal S1x256 .f32)
    (v269 : Vec Ideal S256x256 .f32) (v272 : Vec Ideal S1x256 .f32) (v276 : Vec Ideal S256x16 .f32)
    (hP : ∀ r e, k0_pay13 v248 v258 v259 v264 v269 v272 v276 (ix2 r e) = A.p r e) (a b : Fin 1) :
    k0_pay29 (k0_pay25 (k0_pay13 v248 v258 v259 v264 v269 v272 v276)
      (k0_pay20 (k0_pay13 v248 v258 v259 v264 v269 v272 v276) k0_pay14 lanes (k0_pay15 v248 v258 v259 v264 v269 v272 v276))
      (k0_pay21 (k0_pay13 v248 v258 v259 v264 v269 v272 v276) lanes (k0_pay15 v248 v258 v259 v264 v269 v272 v276)))
      (k0_pay26 (k0_pay13 v248 v258 v259 v264 v269 v272 v276)) (ix2 a b) = Ideal.ofBits .f32 1042536202#32 * A.balance
      + Ideal.div (Ideal.ofBits .f32 1000593162#32 * A.spread) (Ideal.ofBits .f32 1166016512#32) := by
  have hG := gates_at A v248 v258 v259 v264 v269 v272 v276 hP
  generalize k0_pay20 (k0_pay13 v248 v258 v259 v264 v269 v272 v276) k0_pay14 lanes (k0_pay15 v248 v258 v259 v264 v269 v272 v276) = m3 at hG ⊢
  generalize k0_pay21 (k0_pay13 v248 v258 v259 v264 v269 v272 v276) lanes (k0_pay15 v248 v258 v259 v264 v269 v272 v276) = m4 at hG ⊢
  generalize k0_pay13 v248 v258 v259 v264 v269 v272 v276 = P at hP hG ⊢
  exact pay29_at A P P m3 m4 hG hP a b

/-- The hidden rows the first point stores. -/
theorem A_S0_at (c : Dev nD) (hA : (argsK m c).InRange) (t : Fin cfg0.N) (h : t.val = 0) (r : Fin 4096) (d : Fin 256) :
    A_S0 m c t h (ix2 r d) = (argsK m c).x r d := by
  unfold A_S0 rA
  frame_out
  rw [pay23_eq]
  refine rows_at m c hA t _ _ _ _ (w5a m c t _) (w5b m c t 32 (by decide) _) (w5b m c t 40 (by decide) _) (w5c m c t _) r d

/-- The probabilities the first point stores. -/
theorem A_O19_at (c : Dev nD) (hA : (argsK m c).InRange) (t : Fin cfg0.N) (h : t.val = 0) (r : Fin 4096) (e : Fin 16) :
    A_O19 m c t h (ix2 r e) = (argsK m c).p r e := by
  unfold A_O19 rA
  frame_out
  refine pay13_at (argsK m c) _ _ _ _ _ _ _ (fun r d => rows_at m c hA t _ _ _ _ (w5a m c t _) (w5b m c t 32 (by decide) _) (w5b m c t 40 (by decide) _) (w5c m c t _) r d) (b9 m c t) r e

/-- The gates the first point stores. -/
theorem A_S1_at (c : Dev nD) (hA : (argsK m c).InRange) (t : Fin cfg0.N) (h : t.val = 0) (r : Fin 4096) (e : Fin 16) :
    A_S1 m c t h (ix2 r e) = (argsK m c).g r e := by
  unfold A_S1 rA
  frame_out
  rw [pay24_eq]
  refine gates_at (argsK m c) _ _ _ _ _ _ _ (fun r e => pay13_at (argsK m c) _ _ _ _ _ _ _ (fun r d => rows_at m c hA t _ _ _ _ (w5a m c t _) (w5b m c t 32 (by decide) _) (w5b m c t 40 (by decide) _) (w5c m c t _) r d) (b9 m c t) r e) r e

/-- The balance and spread terms the first point stores. -/
theorem A_S3_at (c : Dev nD) (hA : (argsK m c).InRange) (t : Fin cfg0.N) (h : t.val = 0) (a b : Fin 1) :
    A_S3 m c t h (ix2 a b) = Ideal.ofBits .f32 1042536202#32 * (argsK m c).balance
      + Ideal.div (Ideal.ofBits .f32 1000593162#32 * (argsK m c).spread) (Ideal.ofBits .f32 1166016512#32) := by
  unfold A_S3 rA
  frame_out
  refine spread_at (argsK m c) _ _ _ _ _ _ _ (fun r e => pay13_at (argsK m c) _ _ _ _ _ _ _ (fun r d => rows_at m c hA t _ _ _ _ (w5a m c t _) (w5b m c t 32 (by decide) _) (w5b m c t 40 (by decide) _) (w5c m c t _) r d) (b9 m c t) r e) a b

/-- The weighted sum of the first point's experts. -/
theorem A_S2_at (c : Dev nD) (hA : (argsK m c).InRange) (t : Fin cfg0.N) (h : t.val = 0) (ht : t.val < 4) (r : Fin 4096) (d : Fin 256) :
    A_S2 m c t h (ix2 r d) = quad (fun e => (argsK m c).g r e * (argsK m c).hw e r d) t.val ht := by
  unfold A_S2 rA
  frame_out
  rw [pay3_at]
  refine chain_at (argsK m c) t.val ht _ _ _ _ _ _ _ _ _ _ _ _ _ _ (fun r d => ?_) (fun r e => ?_) (w10 m c t ht 0 (by decide) _) (w11 m c t ht 0 (by decide) _) (w12 m c t ht 0 (by decide) _) (w10 m c t ht 1 (by decide) _) (w11 m c t ht 1 (by decide) _) (w12 m c t ht 1 (by decide) _) (w10 m c t ht 2 (by decide) _) (w11 m c t ht 2 (by decide) _) (w12 m c t ht 2 (by decide) _) (w10 m c t ht 3 (by decide) _) (w11 m c t ht 3 (by decide) _) (w12 m c t ht 3 (by decide) _) (grid0.coords t) (idx t).2.2.2.2.2.2.2.2.2.2.2.2.2.2.2.2.2.2.2 r d
  · rw [pay23_eq]
    refine rows_at m c hA t _ _ _ _ (w5a m c t _) (w5b m c t 32 (by decide) _) (w5b m c t 40 (by decide) _) (w5c m c t _) r d
  · rw [pay24_eq]
    refine gates_at (argsK m c) _ _ _ _ _ _ _ (fun r e => pay13_at (argsK m c) _ _ _ _ _ _ _ (fun r d => rows_at m c hA t _ _ _ _ (w5a m c t _) (w5b m c t 32 (by decide) _) (w5b m c t 40 (by decide) _) (w5c m c t _) r d) (b9 m c t) r e) r e

/-- The gaps of the first point's weights. -/
theorem A_S4_at (c : Dev nD) (t : Fin cfg0.N) (h : t.val = 0) (ht : t.val < 4) (a b : Fin 1) :
    A_S4 m c t h (ix2 a b) = quad (argsK m c).t1 t.val ht := by
  unfold A_S4 rA
  frame_out
  refine gapA_at (argsK m c) t.val ht _ _ _ _ (w10 m c t ht 0 (by decide) _) (w10 m c t ht 1 (by decide) _) (w10 m c t ht 2 (by decide) _) (w10 m c t ht 3 (by decide) _) a b
/-- The first point leaves the ternary sum of the second weights over its experts. -/
theorem A_S5_at (c : Dev nD) (t : Fin cfg0.N) (h : t.val = 0) (ht : t.val < 4) (a b : Fin 1) :
    A_S5 m c t h (ix2 a b) = quad (argsK m c).t2 t.val ht := by
  unfold A_S5 rA
  frame_out
  refine hapA_at (argsK m c) t.val ht _ _ _ _ (w12 m c t ht 0 (by decide) _) (w12 m c t ht 1 (by decide) _) (w12 m c t ht 2 (by decide) _) (w12 m c t ht 3 (by decide) _) a b

/-- The weighted sum after a later point. -/
theorem B_S2_at (c : Dev nD) (t : Fin cfg0.N) (h : t.val ≠ 0) (h3 : t.val ≠ 3) (s : St Ideal) (ht : t.val < 4)
    (hx : ∀ r d, s.1 (ix2 r d) = (argsK m c).x r d) (hg : ∀ r e, s.2.1 (ix2 r e) = (argsK m c).g r e) (r : Fin 4096) (d : Fin 256) :
    B_S2 m c t h h3 s (ix2 r d) = s.2.2.1 (ix2 r d) + quad (fun e => (argsK m c).g r e * (argsK m c).hw e r d) t.val ht := by
  unfold B_S2 rB
  frame_out
  simp only [read_unread_whole]
  rw [pay6_at]
  refine congrArg (s.2.2.1 (ix2 r d) + ·) ?_
  refine chain_at (argsK m c) t.val ht _ _ _ _ _ _ _ _ _ _ _ _ _ _ hx hg (w10 m c t ht 0 (by decide) _) (w11 m c t ht 0 (by decide) _) (w12 m c t ht 0 (by decide) _) (w10 m c t ht 1 (by decide) _) (w11 m c t ht 1 (by decide) _) (w12 m c t ht 1 (by decide) _) (w10 m c t ht 2 (by decide) _) (w11 m c t ht 2 (by decide) _) (w12 m c t ht 2 (by decide) _) (w10 m c t ht 3 (by decide) _) (w11 m c t ht 3 (by decide) _) (w12 m c t ht 3 (by decide) _) (grid0.coords t) (idx t).2.2.2.2.2.2.2.2.2.2.2.2.2.2.2.2.2.2.2 r d

/-- The gaps after a later point. -/
theorem B_S4_at (c : Dev nD) (t : Fin cfg0.N) (h : t.val ≠ 0) (h3 : t.val ≠ 3) (s : St Ideal) (ht : t.val < 4) (a b : Fin 1) :
    B_S4 m c t h h3 s (ix2 a b) = s.2.2.2.2.1 (ix2 a b) + quad (argsK m c).t1 t.val ht := by
  unfold B_S4 rB
  frame_out
  simp only [read_unread_whole]
  refine gapB_at (argsK m c) t.val ht _ _ _ _ (w10 m c t ht 0 (by decide) _) (w10 m c t ht 1 (by decide) _) (w10 m c t ht 2 (by decide) _) (w10 m c t ht 3 (by decide) _) _ a b
/-- A later point adds the ternary sum of the second weights over its experts. -/
theorem B_S5_at (c : Dev nD) (t : Fin cfg0.N) (h : t.val ≠ 0) (h3 : t.val ≠ 3) (s : St Ideal) (ht : t.val < 4) (a b : Fin 1) :
    B_S5 m c t h h3 s (ix2 a b) = s.2.2.2.2.2 (ix2 a b) + quad (argsK m c).t2 t.val ht := by
  unfold B_S5 rB
  frame_out
  simp only [read_unread_whole]
  refine hapB_at (argsK m c) t.val ht _ _ _ _ (w12 m c t ht 0 (by decide) _) (w12 m c t ht 1 (by decide) _) (w12 m c t ht 2 (by decide) _) (w12 m c t ht 3 (by decide) _) _ a b

/-- The weighted sum after a later point. -/
theorem C_S2_at (c : Dev nD) (t : Fin cfg0.N) (h : t.val ≠ 0) (h3 : t.val = 3) (s : St Ideal) (ht : t.val < 4)
    (hx : ∀ r d, s.1 (ix2 r d) = (argsK m c).x r d) (hg : ∀ r e, s.2.1 (ix2 r e) = (argsK m c).g r e) (r : Fin 4096) (d : Fin 256) :
    C_S2 m c t h h3 s (ix2 r d) = s.2.2.1 (ix2 r d) + quad (fun e => (argsK m c).g r e * (argsK m c).hw e r d) t.val ht := by
  unfold C_S2 rC
  frame_out
  simp only [read_unread_whole]
  rw [pay6_at]
  refine congrArg (s.2.2.1 (ix2 r d) + ·) ?_
  refine chain_at (argsK m c) t.val ht _ _ _ _ _ _ _ _ _ _ _ _ _ _ hx hg (w10 m c t ht 0 (by decide) _) (w11 m c t ht 0 (by decide) _) (w12 m c t ht 0 (by decide) _) (w10 m c t ht 1 (by decide) _) (w11 m c t ht 1 (by decide) _) (w12 m c t ht 1 (by decide) _) (w10 m c t ht 2 (by decide) _) (w11 m c t ht 2 (by decide) _) (w12 m c t ht 2 (by decide) _) (w10 m c t ht 3 (by decide) _) (w11 m c t ht 3 (by decide) _) (w12 m c t ht 3 (by decide) _) (grid0.coords t) (idx t).2.2.2.2.2.2.2.2.2.2.2.2.2.2.2.2.2.2.2 r d

/-- The gaps after a later point. -/
theorem C_S4_at (c : Dev nD) (t : Fin cfg0.N) (h : t.val ≠ 0) (h3 : t.val = 3) (s : St Ideal) (ht : t.val < 4) (a b : Fin 1) :
    C_S4 m c t h h3 s (ix2 a b) = s.2.2.2.2.1 (ix2 a b) + quad (argsK m c).t1 t.val ht := by
  unfold C_S4 rC
  frame_out
  simp only [read_unread_whole]
  refine gapB_at (argsK m c) t.val ht _ _ _ _ (w10 m c t ht 0 (by decide) _) (w10 m c t ht 1 (by decide) _) (w10 m c t ht 2 (by decide) _) (w10 m c t ht 3 (by decide) _) _ a b
/-- A later point adds the ternary sum of the second weights over its experts. -/
theorem C_S5_at (c : Dev nD) (t : Fin cfg0.N) (h : t.val ≠ 0) (h3 : t.val = 3) (s : St Ideal) (ht : t.val < 4) (a b : Fin 1) :
    C_S5 m c t h h3 s (ix2 a b) = s.2.2.2.2.2 (ix2 a b) + quad (argsK m c).t2 t.val ht := by
  unfold C_S5 rC
  frame_out
  simp only [read_unread_whole]
  refine hapB_at (argsK m c) t.val ht _ _ _ _ (w12 m c t ht 0 (by decide) _) (w12 m c t ht 1 (by decide) _) (w12 m c t ht 2 (by decide) _) (w12 m c t ht 3 (by decide) _) _ a b

/-- The result the last point stores. -/
theorem C_O18_at (c : Dev nD) (t : Fin cfg0.N) (h : t.val ≠ 0) (h3 : t.val = 3) (s : St Ideal) (ht : t.val < 4)
    (hx : ∀ r d, s.1 (ix2 r d) = (argsK m c).x r d) (hg : ∀ r e, s.2.1 (ix2 r e) = (argsK m c).g r e)
    (hs : ∀ r d, s.2.2.1 (ix2 r d) + quad (fun e => (argsK m c).g r e * (argsK m c).hw e r d) t.val ht
      = ∑ e, (argsK m c).g r e * (argsK m c).hw e r d) (r : Fin 4096) (d : Fin 8) :
    C_O18 m c t h h3 s (ix2 r d) = (argsK m c).out r d := by
  unfold C_O18 rC
  frame_out
  simp only [read_unread_whole]
  refine pay27_at (argsK m c) _ _ _ _ _ _ _ (fun r d => ?_) hg (b13 m c t) (b14 m c t) (b15 m c t) (b16 m c t) (b17 m c t) r d
  rw [pay6_at, ← hs]
  refine congrArg (s.2.2.1 (ix2 r d) + ·) ?_
  refine chain_at (argsK m c) t.val ht _ _ _ _ _ _ _ _ _ _ _ _ _ _ hx hg (w10 m c t ht 0 (by decide) _) (w11 m c t ht 0 (by decide) _) (w12 m c t ht 0 (by decide) _) (w10 m c t ht 1 (by decide) _) (w11 m c t ht 1 (by decide) _) (w12 m c t ht 1 (by decide) _) (w10 m c t ht 2 (by decide) _) (w11 m c t ht 2 (by decide) _) (w12 m c t ht 2 (by decide) _) (w10 m c t ht 3 (by decide) _) (w11 m c t ht 3 (by decide) _) (w12 m c t ht 3 (by decide) _) (grid0.coords t) (idx t).2.2.2.2.2.2.2.2.2.2.2.2.2.2.2.2.2.2.2 r d

/-- The auxiliary loss the last point stores. -/
theorem C_O20_at (c : Dev nD) (t : Fin cfg0.N) (h : t.val ≠ 0) (h3 : t.val = 3) (s : St Ideal) (ht : t.val < 4) (a b : Fin 1) :
    C_O20 m c t h h3 s (ix2 a b) = s.2.2.2.1 (ix2 a b) + Ideal.ofBits .f32 1008981770#32 *
      (Ideal.div (s.2.2.2.2.1 (ix2 a b) + quad (argsK m c).t1 t.val ht) (Ideal.ofBits .f32 1241513984#32)
        + Ideal.div (s.2.2.2.2.2 (ix2 a b) + quad (argsK m c).t2 t.val ht) (Ideal.ofBits .f32 1241513984#32)) := by
  unfold C_O20 rC
  frame_out
  simp only [read_unread_whole]
  rw [pay9_at]
  refine congrArg (fun x => s.2.2.2.1 (ix2 a b) + Ideal.ofBits .f32 1008981770#32 * x) ?_
  refine congrArg₂ (fun x y => Ideal.div x (Ideal.ofBits .f32 1241513984#32) + Ideal.div y (Ideal.ofBits .f32 1241513984#32))
    (gapB_at (argsK m c) t.val ht _ _ _ _ (w10 m c t ht 0 (by decide) _) (w10 m c t ht 1 (by decide) _) (w10 m c t ht 2 (by decide) _) (w10 m c t ht 3 (by decide) _) _ a b) (hapB_at (argsK m c) t.val ht _ _ _ _ (w12 m c t ht 0 (by decide) _) (w12 m c t ht 1 (by decide) _) (w12 m c t ht 2 (by decide) _) (w12 m c t ht 3 (by decide) _) _ a b)

end Cert.Val

end
-- ==== Proof.KerFin.lean ====
/- What the kernel leaves in its three results. -/
module

public import proofs.«01_k».proof.Proof.KerSt

@[expose] public section

set_option maxRecDepth 16384

noncomputable section

namespace Cert.Val

open Idealize.ShloMosaic Idealize.ShloMosaic.TcCoe Cert.KernelIdeal Cert.KernelIdeal.Gen Cert.KernelIdeal.Hand

variable (m : (ℓ : Loc nD τ sig) → Buf (Elt Ideal) ℓ)

/-- The sum over the experts of the points up to `n`, in the order of the points. -/
def psum (q : Fin 16 → EReal) : (n : ℕ) → n < 4 → EReal
  | 0, h => quad q 0 h
  | n + 1, h => psum q n (Nat.lt_of_succ_lt h) + quad q (n + 1) h

/-- The last point completes the sum. -/
theorem psum_last (q : Fin 16 → EReal) (s : ℕ) (h : s = 3) (hp : s - 1 < 4) (hs : s < 4) : psum q (s - 1) hp + quad q s hs = ∑ t, q t := by
  subst h
  exact quad_sum q

/-- What the scratch holds after each point before the last. -/
theorem state_at (c : Dev nD) (hA : (argsK m c).InRange) (n : ℕ) (hn : n < cfg0.N) (h3 : n < 3) (h4 : n < 4) :
    (∀ r d, (outsAt m c n hn).1 (ix2 r d) = (argsK m c).x r d)
      ∧ (∀ r e, (outsAt m c n hn).2.1 (ix2 r e) = (argsK m c).g r e)
      ∧ (∀ r d, (outsAt m c n hn).2.2.1 (ix2 r d) = psum (fun e => (argsK m c).g r e * (argsK m c).hw e r d) n h4)
      ∧ (∀ a b, (outsAt m c n hn).2.2.2.1 (ix2 a b) = Ideal.ofBits .f32 1042536202#32 * (argsK m c).balance
          + Ideal.div (Ideal.ofBits .f32 1000593162#32 * (argsK m c).spread) (Ideal.ofBits .f32 1166016512#32))
      ∧ (∀ a b, (outsAt m c n hn).2.2.2.2.1 (ix2 a b) = psum (argsK m c).t1 n h4)
      ∧ (∀ a b, (outsAt m c n hn).2.2.2.2.2 (ix2 a b) = psum (argsK m c).t2 n h4) := by
  induction n with
  | zero =>
    rw [outsAt_A m c ⟨0, hn⟩ rfl]
    unfold stA
    dsimp only
    exact ⟨A_S0_at m c hA ⟨0, hn⟩ rfl, A_S1_at m c hA ⟨0, hn⟩ rfl, A_S2_at m c hA ⟨0, hn⟩ rfl h4, A_S3_at m c hA ⟨0, hn⟩ rfl,
      A_S4_at m c ⟨0, hn⟩ rfl h4, A_S5_at m c ⟨0, hn⟩ rfl h4⟩
  | succ n ih =>
    obtain ⟨hx, hg, hs, h3', h1, h2⟩ := ih (Nat.lt_of_succ_lt hn) (by omega) (by omega)
    rw [outsAt_B m c ⟨n + 1, hn⟩ (Nat.succ_ne_zero n) (by dsimp only; omega)]
    unfold stB
    dsimp only
    refine ⟨hx, hg, fun r d => ?_, h3', fun a b => ?_, fun a b => ?_⟩
    · refine (B_S2_at m c ⟨n + 1, hn⟩ _ _ _ h4 hx hg r d).trans ?_
      exact congrArg (· + _) (hs r d)
    · refine (B_S4_at m c ⟨n + 1, hn⟩ _ _ _ h4 a b).trans ?_
      exact congrArg (· + _) (h1 a b)
    · refine (B_S5_at m c ⟨n + 1, hn⟩ _ _ _ h4 a b).trans ?_
      exact congrArg (· + _) (h2 a b)

/-- The last point is point three. -/
theorem t03_val : t0_3.val = 3 := rfl

/-- The word of 4096. -/
theorem rows_word : Ideal.ofBits .f32 1166016512#32 = ((4096 : ℝ) : EReal) := by
  simp [Ideal.ofBits, Ideal.ieee, -EReal.coe_mul]; norm_num

/-- The kernel's order of the auxiliary loss is the layer's. -/
theorem aux_order (A : Args) :
    Ideal.ofBits .f32 1042536202#32 * A.balance + Ideal.div (Ideal.ofBits .f32 1000593162#32 * A.spread) (Ideal.ofBits .f32 1166016512#32)
      + Ideal.ofBits .f32 1008981770#32 * (Ideal.div (∑ t, A.t1 t) (Ideal.ofBits .f32 1241513984#32)
        + Ideal.div (∑ t, A.t2 t) (Ideal.ofBits .f32 1241513984#32)) = A.aux := by
  unfold Args.aux
  rw [rows_word, Ideal.div_coe (by norm_num), Ideal.div_coe (by norm_num), mul_assoc, add_comm, add_comm (_ * A.balance), ← add_assoc]

/-- The result window's last block. -/
theorem P18_at (c : Dev nD) (hA : (argsK m c).InRange) (r : Fin 4096) (d : Fin 8) : P18 m c (ix2 r d) = (argsK m c).out r d := by
  have hv := t03_val
  obtain ⟨hx, hg, hs, -, -, -⟩ := state_at m c hA (t0_3.val - 1) (pred_lt t0_3) (by omega) (by omega)
  unfold P18
  refine C_O18_at m c t0_3 _ _ _ (by omega) hx hg (fun r d => ?_) r d
  rw [hs]
  exact psum_last _ _ hv _ _

/-- The auxiliary window's last block. -/
theorem P20_at (c : Dev nD) (hA : (argsK m c).InRange) (a b : Fin 1) : P20 m c (ix2 a b) = (argsK m c).aux := by
  have hv := t03_val
  obtain ⟨-, -, -, h3, h1, h2⟩ := state_at m c hA (t0_3.val - 1) (pred_lt t0_3) (by omega) (by omega)
  unfold P20
  refine (C_O20_at m c t0_3 _ _ _ (by omega) a b).trans ?_
  rw [h3, h1, h2, psum_last _ _ hv, psum_last _ _ hv]
  exact aux_order _

/-- The probability window's block. -/
theorem P19_at (c : Dev nD) (hA : (argsK m c).InRange) (r : Fin 4096) (e : Fin 16) : P19 m c (ix2 r e) = (argsK m c).p r e :=
  A_O19_at m c hA t0_0 rfl r e

/-- The result array after the run. -/
theorem final18 (c : Dev nD) (hA : (argsK m c).InRange) :
    (dats m 0 c).arrAt 18 (cfgs 0).N = fun j : S4096x8.Idx => (argsK m c).out (j 0) (j 1) := by
  refine (dats m 0 c).arrAt_eq_of_after_last 18 t0_3 (by decide +kernel) _ fun j => ?_
  blk_simp
  rw [after0_18]
  exact (congrArg (P18 m c) (eq_ix2 j)).trans (P18_at m c hA (j 0) (j 1))

/-- The probabilities after the run. -/
theorem final19 (c : Dev nD) (hA : (argsK m c).InRange) :
    (dats m 0 c).arrAt 19 (cfgs 0).N = fun j : S4096x16.Idx => (argsK m c).p (j 0) (j 1) := by
  refine (dats m 0 c).arrAt_eq_of_after_last 19 t0_3 (by decide +kernel) _ fun j => ?_
  blk_simp
  rw [after0_19]
  exact (congrArg (P19 m c) (eq_ix2 j)).trans (P19_at m c hA (j 0) (j 1))

/-- The auxiliary loss after the run. -/
theorem final20 (c : Dev nD) (hA : (argsK m c).InRange) :
    (dats m 0 c).arrAt 20 (cfgs 0).N = fun _ : S1x1.Idx => (argsK m c).aux := by
  refine (dats m 0 c).arrAt_eq_of_after_last 20 t0_3 (by decide +kernel) _ fun j => ?_
  blk_simp
  rw [after0_20]
  exact (congrArg (P20 m c) (eq_ix2 j)).trans (P20_at m c hA (j 0) (j 1))

end Cert.Val

end
-- ==== Proof.RefOut.lean ====
/- The reference's three results are the layer's values. -/
module

public import proofs.«01_k».proof.Proof.RefAt
public import Idealize.ShloMosaic.Lib.Claim

@[expose] public section

set_option maxRecDepth 16384

noncomputable section

namespace Cert.Val

open Idealize.ShloMosaic Idealize.SL.Sem Idealize.ShloMosaic.StableHlo Cert.ReferenceIdeal Cert.ReferenceIdeal.Gen Cert.ReferenceIdeal.Value

/-- The reference's result read at an index. -/
theorem refOut_val (A : Args) (hA : A.InRange) (r : Fin 4096) (d : Fin 8) : refOut A (refX A) (refG A) (ix2 r d) = A.out r d := by
  have h : ∀ (X : FVec Ideal S4096x256 .f32) (G : FVec Ideal S4096x16 .f32), refOut A X G (ix2 r d)
      = Ideal.div 1 (1 + Ideal.exp (-(∑ h : Fin 64, max (∑ k : Fin 256, (∑ t : Fin 16, G (ix2 r t) *
          (∑ y : Fin 512, A.a12 (ix3 t y k) * max (∑ q : Fin 256, X (ix2 r q) * A.a10 (ix3 t q y) + A.a11 (ix2 t y)) 0
            + A.a13 (ix2 t k))) * A.a14 (ix2 k h) + A.a15 (ix1 h)) 0 * A.a16 (ix2 h d) + A.a17 (ix1 d)))) :=
    fun X G => by pointwise [refOut]
  rw [h]
  simp only [refX_val A hA, refG_val A hA]
  unfold Args.out Args.z Args.moe Args.hw
  simp only [mul_comm (A.a12 _)]

/-- Sixteen hundredths, as the product of the printed constants. -/
theorem sixteen : Ideal.ofBits .f32 1008981770#32 * Ideal.ofBits .f32 1098907648#32 = Ideal.ofBits .f32 1042536202#32 := by
  simp [Ideal.ofBits, Ideal.ieee, -EReal.coe_mul]
  rw [← EReal.coe_mul]
  norm_num [-EReal.coe_mul]

/-- The two ternary terms. -/
def refT (A : Args) : FVec Ideal S16x256x512 .f32 := Host.absf (Host.tanh A.a10)
def refU (A : Args) : FVec Ideal S16x512x256 .f32 := Host.absf (Host.tanh A.a12)

/-- The reference's auxiliary loss. -/
theorem refAux_val (A : Args) (hA : A.InRange) (r d : Fin 1) :
    refAux (refT A) (refU A) (refP A) (refG A) (ix2 r d) = A.aux := by
  have h : ∀ (P G : FVec Ideal S4096x16 .f32), refAux (refT A) (refU A) P G (ix2 r d)
      = Ideal.ofBits FTy.f32 1008981770#32 *
          (Ideal.div (∑ t : Fin 16, ∑ x : Fin 256, ∑ y : Fin 512, tern (A.a10 (ix3 t x y))) (Ideal.ofBits FTy.f32 1241513984#32) +
            Ideal.div (∑ t : Fin 16, ∑ x : Fin 512, ∑ y : Fin 256, tern (A.a12 (ix3 t x y))) (Ideal.ofBits FTy.f32 1241513984#32)) +
        Ideal.ofBits FTy.f32 1000593162#32 *
          Ideal.div (∑ x : Fin 4096, ∑ y : Fin 16, P (ix2 x y) * (1 - P (ix2 x y))) (Ideal.ofBits FTy.f32 1166016512#32) +
      Ideal.ofBits FTy.f32 1008981770#32 * Ideal.ofBits FTy.f32 1098907648#32 *
        ∑ x : Fin 16,
          Ideal.div (∑ y : Fin 4096, P (ix2 y x)) (Ideal.ofBits FTy.f32 1166016512#32) *
            Ideal.div (∑ y : Fin 4096, G (ix2 y x)) (Ideal.ofBits FTy.f32 1166016512#32) :=
    fun P G => by
      pointwise [refAux, refT, refU]
      rfl
  rw [h, sixteen]
  simp only [refP_val A hA, refG_val A hA]
  rfl

/-- The run's first ternary array is the layer's. -/
theorem v163_eq (V0 : Valuation τ sig (Elt Ideal)) : res_main_v163 V0 = refT (argsR V0) := rfl
/-- The run's second ternary array is the layer's. -/
theorem v165_eq (V0 : Valuation τ sig (Elt Ideal)) : res_main_v165 V0 = refU (argsR V0) := rfl

/-- What a run of the reference leaves: its three results are the layer's values on its arguments. -/
theorem run_vals (m : (ℓ : Loc nD τ sig) → Buf (Elt Ideal) ℓ) (ρ : Dev nD → PrngReg)
    (hA : ∀ c, (argsR (launchContents m c)).InRange) :
    θ_run defs (onTc (τ := τ) (main (F := Ideal))) ⟨m, fun _ => 0, ρ⟩ fun r => ∀ c : Dev nD,
      (∀ i j, r.2.mem ((c.tc : Thread nD τ).loc main_v194) (ix2 i j) = (argsR (launchContents m c)).out i j)
      ∧ (∀ i j, r.2.mem ((c.tc : Thread nD τ).loc main_v109) (ix2 i j) = (argsR (launchContents m c)).p i j)
      ∧ (∀ i j, r.2.mem ((c.tc : Thread nD τ).loc main_v195) (ix2 i j) = (argsR (launchContents m c)).aux) := by
  refine (θ_run defs _ _).mono (fun r h c => ?_) (Cert.ReferenceIdeal.Value.run (F := Ideal) m ρ)
  obtain ⟨h1, h2, h3, -⟩ := h c
  refine ⟨fun i j => ?_, fun i j => ?_, fun i j => ?_⟩
  · rw [h1, v97_eq, v133_eq]
    exact refOut_val _ (hA c) i j
  · rw [h2, v109_eq]
    exact refP_val _ (hA c) i j
  · rw [h3, v163_eq, v165_eq, v109_eq, v133_eq]
    exact refAux_val _ (hA c) i j

end Cert.Val

end
-- ==== Proof.Same.lean ====
/- The kernel and the reference leave the same values. -/
module

public import proofs.«01_k».proof.Defs
public import proofs.«01_k».proof.Proof.Run
public import proofs.«01_k».proof.Proof.KerFin
public import proofs.«01_k».proof.Proof.RefOut
public import Idealize.ShloMosaic.Lib.Pointwise
public import Idealize.ShloMosaic.Lib.Claim

@[expose] public section

set_option maxRecDepth 16384

noncomputable section

namespace Cert.Val

open Idealize.ShloMosaic Idealize.SL.Sem Idealize.ShloMosaic.StableHlo

/-- The facts about the predicate's shapes. -/
theorem preFacts : Cert.Pre_op_in_range.Facts := ⟨by decide, by decide, by decide⟩

/-- A conjunction of bits that comes out one is a conjunction of ones. -/
theorem fold_andi_one {α : Type} (s : Finset α) (f : α → BitVec 1) (h : s.fold IntOp.andi 1#1 f = 1#1) : ∀ x ∈ s, f x = 1#1 := by
  classical
  induction s using Finset.induction_on with
  | empty => intro x hx; simp at hx
  | insert a s ha ih =>
    rw [Finset.fold_insert ha] at h
    have hb : ∀ p q : BitVec 1, IntOp.andi p q = 1#1 → p = 1#1 ∧ q = 1#1 := by decide
    obtain ⟨h1, h2⟩ := hb _ _ h
    intro x hx
    rcases Finset.mem_insert.mp hx with rfl | hx
    · exact h1
    · exact ih h2 x hx

/-- The predicate's value, over its first argument. -/
theorem pre_at [Cert.Pre_op_in_range.Facts] (A : Args) (j : (⟨0, ![]⟩ : Shape).Idx) :
    Cert.Pre_op_in_range.fn (F := Ideal) A.a0 A.a1 A.a2 A.a3 A.a4 A.a5 A.a6 A.a7 A.a8 A.a9 A.a10 A.a11 A.a12 A.a13 A.a14 A.a15 A.a16 A.a17 j
      = Finset.univ.fold IntOp.andi 1#1 fun r : Fin 4096 => BitVec.ofBool (decide ((A.a0 (ix1 r)).toNat < 8)) := by
  pointwise [Cert.Pre_op_in_range.fn]
  exact congrArg (fun f => Finset.fold IntOp.andi 1#1 f Finset.univ)
    (funext fun r => WordCmp.andi_sge_zero_slt_ofNat (w := 32) (k := 8) (by decide) (A.a0 (ix1 r)))

/-- The predicate says that every operation index is below eight. -/
theorem in_range [Cert.Pre_op_in_range.Facts] (A : Args)
    (h : Cert.Pre_op_in_range.fn (F := Ideal) A.a0 A.a1 A.a2 A.a3 A.a4 A.a5 A.a6 A.a7 A.a8 A.a9 A.a10 A.a11 A.a12 A.a13 A.a14 A.a15 A.a16 A.a17 = fun _ => 1#1) : A.InRange := by
  intro r
  have h1 := fold_andi_one _ _ ((pre_at A (fun k => k.elim0)).symm.trans (congrFun h _)) r (Finset.mem_univ r)
  by_contra hr
  rw [decide_eq_false hr] at h1
  exact absurd h1 (by decide)

/-- Two layers of the same arguments are the same. -/
theorem Args.same (A B : Args) (h0 : A.a0 = B.a0)
    (h1 : A.a1 = B.a1)
    (h2 : A.a2 = B.a2)
    (h3 : A.a3 = B.a3)
    (h4 : A.a4 = B.a4)
    (h5 : A.a5 = B.a5)
    (h6 : A.a6 = B.a6)
    (h7 : A.a7 = B.a7)
    (h8 : A.a8 = B.a8)
    (h9 : A.a9 = B.a9)
    (h10 : A.a10 = B.a10)
    (h11 : A.a11 = B.a11)
    (h12 : A.a12 = B.a12)
    (h13 : A.a13 = B.a13)
    (h14 : A.a14 = B.a14)
    (h15 : A.a15 = B.a15)
    (h16 : A.a16 = B.a16)
    (h17 : A.a17 = B.a17) : A = B := by
  cases A; cases B
  dsimp only at *
  subst h0 h1 h2 h3 h4 h5 h6 h7 h8 h9 h10 h11 h12 h13 h14 h15 h16 h17
  rfl

/-- The kernel's results are what its windows wrote back. -/
theorem ker_arrays (m : (ℓ : Loc Cert.KernelIdeal.nD Cert.KernelIdeal.τ Cert.KernelIdeal.sig) → Buf (Elt Ideal) ℓ)
    (ρ : Dev Cert.KernelIdeal.nD → PrngReg) :
    θ_run Cert.KernelIdeal.defs (onTc (τ := Cert.KernelIdeal.τ) (Cert.KernelIdeal.main (F := Ideal))) ⟨m, fun _ => 0, ρ⟩ fun r =>
      ∀ c : Dev Cert.KernelIdeal.nD,
        r.2.mem ((c.tc : Thread Cert.KernelIdeal.nD Cert.KernelIdeal.τ).loc Cert.KernelIdeal.main_v9_0)
            = (Cert.KernelIdeal.Hand.dats m 0 c).arrAt 18 (Cert.KernelIdeal.cfgs 0).N
          ∧ r.2.mem ((c.tc : Thread Cert.KernelIdeal.nD Cert.KernelIdeal.τ).loc Cert.KernelIdeal.main_v9_1)
            = (Cert.KernelIdeal.Hand.dats m 0 c).arrAt 19 (Cert.KernelIdeal.cfgs 0).N
          ∧ r.2.mem ((c.tc : Thread Cert.KernelIdeal.nD Cert.KernelIdeal.τ).loc Cert.KernelIdeal.main_v9_2)
            = (Cert.KernelIdeal.Hand.dats m 0 c).arrAt 20 (Cert.KernelIdeal.cfgs 0).N := by
  exact (θ_run Cert.KernelIdeal.defs _ _).mono (fun r h c => ⟨(h c).1 18, (h c).1 19, (h c).1 20⟩) (Cert.KernelIdeal.Hand.run_main m ρ)

/-- The reference's results, as arrays. -/
theorem run_arrays (m : (ℓ : Loc Cert.ReferenceIdeal.nD Cert.ReferenceIdeal.τ Cert.ReferenceIdeal.sig) → Buf (Elt Ideal) ℓ)
    (ρ : Dev Cert.ReferenceIdeal.nD → PrngReg) (hA : ∀ c, (argsR (launchContents m c)).InRange) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v194)
            = (fun j : Cert.ReferenceIdeal.S4096x8.Idx => (argsR (launchContents m c)).out (j 0) (j 1))
          ∧ r.2.mem ((c.tc : Thread Cert.ReferenceIdeal.nD Cert.ReferenceIdeal.τ).loc Cert.ReferenceIdeal.main_v109)
            = (fun j : Cert.ReferenceIdeal.S4096x16.Idx => (argsR (launchContents m c)).p (j 0) (j 1))
          ∧ r.2.mem ((c.tc : Thread Cert.ReferenceIdeal.nD Cert.ReferenceIdeal.τ).loc Cert.ReferenceIdeal.main_v195)
            = (fun _ : Cert.ReferenceIdeal.S1x1.Idx => (argsR (launchContents m c)).aux) := by
  refine (θ_run _ _ _).mono (fun r h c => ?_) (run_vals m ρ hA)
  obtain ⟨h1, h2, h3⟩ := h c
  refine ⟨funext fun j => ?_, funext fun j => ?_, funext fun j => ?_⟩
  · exact (congrArg _ (eq_ix2 j)).trans (h1 (j 0) (j 1))
  · exact (congrArg _ (eq_ix2 j)).trans (h2 (j 0) (j 1))
  · exact (congrArg _ (eq_ix2 j)).trans (h3 (j 0) (j 1))

section
attribute [local instance] Cert.KernelIdeal.Gen.facts Cert.ReferenceIdeal.Gen.facts preFacts

/-- From the same arguments, with every operation index in range, the kernel and the reference end with equal results. -/
theorem same_values : Cert.algebraic_KernelIdeal_ReferenceIdeal_pre_op_in_range := by
  intro m g m' g' hpre hagree
  refine ⟨fun c => (Cert.KernelIdeal.Hand.dats m 0 c).arrAt 18 (Cert.KernelIdeal.cfgs 0).N,
    fun c => (Cert.KernelIdeal.Hand.dats m 0 c).arrAt 19 (Cert.KernelIdeal.cfgs 0).N,
    fun c => (Cert.KernelIdeal.Hand.dats m 0 c).arrAt 20 (Cert.KernelIdeal.cfgs 0).N, ?_, ?_⟩
  · refine (θ_run _ _ _).mono (fun r h c => ?_) (θ_run_and (ker_arrays m g) (Cert.KernelIdeal.Hand.unchanged m g))
    exact ⟨(h.1 c).1, (h.1 c).2.1, (h.1 c).2.2, h.2 c⟩
  · have hK : ∀ c, (argsK m c).InRange := fun c => in_range (argsK m c) (hpre c)
    have hargs : ∀ c, argsR (launchContents m' c) = argsK m c := fun c => by
      obtain ⟨h0, h1, h2, h3, h4, h5, h6, h7, h8, h9, h10, h11, h12, h13, h14, h15, h16, h17⟩ := hagree c
      exact Args.same _ _ h0 h1 h2 h3 h4 h5 h6 h7 h8 h9 h10 h11 h12 h13 h14 h15 h16 h17
    have hR : ∀ c, (argsR (launchContents m' c)).InRange := fun c => by rw [hargs c]; exact hK c
    refine (θ_run _ _ _).mono (fun r h c => ?_) (θ_run_and (run_arrays m' g' hR) (Cert.ReferenceIdeal.Value.run (F := Ideal) m' g'))
    obtain ⟨h0, h1, h2⟩ := h.1 c
    rw [hargs c] at h0 h1 h2
    exact ⟨h0.trans (final18 m c (hK c)).symm, h1.trans (final19 m c (hK c)).symm, h2.trans (final20 m c (hK c)).symm, (h.2 c).2.2.2⟩

end

end Cert.Val

end
-- ==== Proof.lean ====
/- The five claims of the certificate, each from its own module. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.WordRun
public import proofs.«01_k».proof.Proof.Same
public import Idealize.ShloMosaic.Lib.Claim
public import Idealize.ShloMosaic.Adequacy
public import Idealize.ShloMosaic.Init

@[expose] public section

noncomputable section

namespace Cert.Proof

open Idealize.ShloMosaic Idealize.SL.Sem

/-- The reference leaves its arguments unchanged and holds no semaphore. -/
theorem frameRef : Cert.quiescent_ReferenceIdeal := by
  intro m g _
  exact (θ_run Cert.ReferenceIdeal.defs _ _).mono
    (fun r h => ⟨fun c => (h c).2.2.2, Idealize.ShloMosaic.sem_eq_zero_of_no_sems (by decide) r.2⟩)
    (Cert.ReferenceIdeal.Value.run (F := Ideal) m g)

/-- The kernel's arguments end unchanged and its semaphores at zero, for its words and over the extended reals; the same
    for the reference; the idealized kernel is the kernel; and from the same arguments, every operation index in range, the
    idealized kernel and the idealized reference end with equal results. -/
theorem claim : Cert.Claim := ⟨Cert.Kernel.Gen.facts, Cert.KernelIdeal.Gen.facts, Cert.ReferenceIdeal.Gen.facts, Cert.Val.preFacts,
  fun m ρ _ => Cert.Kernel.Hand.frame m ρ, fun m ρ _ => Cert.KernelIdeal.Hand.frame m ρ,
  fun m ρ _ => Cert.KernelIdeal.Hand.frame m ρ, frameRef, fun m ρ _ => frameRef m ρ trivial, trivial, Cert.Val.same_values⟩

end Cert.Proof

end
